-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 24576]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S16x48x768 : Shape := ⟨3, ![16, 48, 768]⟩
abbrev S15x48x768 : Shape := ⟨3, ![15, 48, 768]⟩
abbrev S15 : Shape := ⟨1, ![15]⟩
abbrev S_ : Shape := ⟨0, ![]⟩
abbrev S1 : Shape := ⟨1, ![1]⟩
abbrev S1x48x768 : Shape := ⟨3, ![1, 48, 768]⟩
abbrev S48x768 : Shape := ⟨2, ![48, 768]⟩

abbrev nBuf : Space → Nat
  | .hbm => 4
  | .vmem => 7
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S1536x768, .f32⟩
  | .hbm, ⟨3, _⟩ => ⟨S16x48x768, .f32⟩
  | .local _ .vmem, ⟨0, _⟩ => ⟨S768x768, .f32⟩
  | .local _ .vmem, ⟨1, _⟩ => ⟨S768x1536, .f32⟩
  | .local _ .vmem, ⟨2, _⟩ => ⟨S1536x768, .f32⟩
  | .local _ .vmem, ⟨3, _⟩ => ⟨S16x48x768, .f32⟩
  | .local _ .vmem, ⟨4, _⟩ => ⟨S16x48x768, .f32⟩
  | .local _ .vmem, ⟨5, _⟩ => ⟨S768x1536, .f32⟩
  | .local _ .vmem, ⟨6, _⟩ => ⟨S15x48x768, .f32⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_75 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v82 : BitVec 32 := Scalar.addi v2 c1_i32_75
  let c16_i32_76 : BitVec 32 := 16#32
  let v83 : BitVec 32 := Scalar.remsi v82 c16_i32_76
  let c0_i32_84 : BitVec 32 := 0#32
  let c0_i32_85 : BitVec 32 := 0#32
  ![v83.toNat, 0, 0]
def k0_dev16 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_75 : BitVec 32 := 1#32
  let v82 : BitVec 32 := Scalar.addi v2 c1_i32_75
  let c16_i32_76 : BitVec 32 := 16#32
  let v83 : BitVec 32 := Scalar.remsi v82 c16_i32_76
  let c1_i32_80 : BitVec 32 := 1#32
  let v84 : BitVec 32 := Scalar.muli v83 c1_i32_80
  let v85 : BitVec 32 := Scalar.addi c0_i32_81 v84
  v85.toNat
def k0_dev17 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_86 : BitVec 32 := 2#32
  let v94 : BitVec 32 := Scalar.addi v2 c2_i32_86
  let c16_i32_87 : BitVec 32 := 16#32
  let v95 : BitVec 32 := Scalar.remsi v94 c16_i32_87
  let c1_i32_91 : BitVec 32 := 1#32
  let v96 : BitVec 32 := Scalar.muli v95 c1_i32_91
  let v97 : BitVec 32 := Scalar.addi c0_i32_92 v96
  v97.toNat
def k0_dev18 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_97 : BitVec 32 := 3#32
  let v106 : BitVec 32 := Scalar.addi v2 c3_i32_97
  let c16_i32_98 : BitVec 32 := 16#32
  let v107 : BitVec 32 := Scalar.remsi v106 c16_i32_98
  let c1_i32_102 : BitVec 32 := 1#32
  let v108 : BitVec 32 := Scalar.muli v107 c1_i32_102
  let v109 : BitVec 32 := Scalar.addi c0_i32_103 v108
  v109.toNat
def k0_dev19 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_108 : BitVec 32 := 4#32
  let v118 : BitVec 32 := Scalar.addi v2 c4_i32_108
  let c16_i32_109 : BitVec 32 := 16#32
  let v119 : BitVec 32 := Scalar.remsi v118 c16_i32_109
  let c1_i32_113 : BitVec 32 := 1#32
  let v120 : BitVec 32 := Scalar.muli v119 c1_i32_113
  let v121 : BitVec 32 := Scalar.addi c0_i32_114 v120
  v121.toNat
def k0_dev20 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_119 : BitVec 32 := 5#32
  let v130 : BitVec 32 := Scalar.addi v2 c5_i32_119
  let c16_i32_120 : BitVec 32 := 16#32
  let v131 : BitVec 32 := Scalar.remsi v130 c16_i32_120
  let c1_i32_124 : BitVec 32 := 1#32
  let v132 : BitVec 32 := Scalar.muli v131 c1_i32_124
  let v133 : BitVec 32 := Scalar.addi c0_i32_125 v132
  v133.toNat
def k0_dev21 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v142 : BitVec 32 := Scalar.addi v2 c6_i32_130
  let c16_i32_131 : BitVec 32 := 16#32
  let v143 : BitVec 32 := Scalar.remsi v142 c16_i32_131
  let c1_i32_135 : BitVec 32 := 1#32
  let v144 : BitVec 32 := Scalar.muli v143 c1_i32_135
  let v145 : BitVec 32 := Scalar.addi c0_i32_136 v144
  v145.toNat
def k0_dev22 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_141 : BitVec 32 := 7#32
  let v154 : BitVec 32 := Scalar.addi v2 c7_i32_141
  let c16_i32_142 : BitVec 32 := 16#32
  let v155 : BitVec 32 := Scalar.remsi v154 c16_i32_142
  let c1_i32_146 : BitVec 32 := 1#32
  let v156 : BitVec 32 := Scalar.muli v155 c1_i32_146
  let v157 : BitVec 32 := Scalar.addi c0_i32_147 v156
  v157.toNat
def k0_dev23 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_152 : BitVec 32 := 8#32
  let v166 : BitVec 32 := Scalar.addi v2 c8_i32_152
  let c16_i32_153 : BitVec 32 := 16#32
  let v167 : BitVec 32 := Scalar.remsi v166 c16_i32_153
  let c1_i32_157 : BitVec 32 := 1#32
  let v168 : BitVec 32 := Scalar.muli v167 c1_i32_157
  let v169 : BitVec 32 := Scalar.addi c0_i32_158 v168
  v169.toNat
def k0_dev24 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_163 : BitVec 32 := 9#32
  let v178 : BitVec 32 := Scalar.addi v2 c9_i32_163
  let c16_i32_164 : BitVec 32 := 16#32
  let v179 : BitVec 32 := Scalar.remsi v178 c16_i32_164
  let c1_i32_168 : BitVec 32 := 1#32
  let v180 : BitVec 32 := Scalar.muli v179 c1_i32_168
  let v181 : BitVec 32 := Scalar.addi c0_i32_169 v180
  v181.toNat
def k0_dev25 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_174 : BitVec 32 := 10#32
  let v190 : BitVec 32 := Scalar.addi v2 c10_i32_174
  let c16_i32_175 : BitVec 32 := 16#32
  let v191 : BitVec 32 := Scalar.remsi v190 c16_i32_175
  let c1_i32_179 : BitVec 32 := 1#32
  let v192 : BitVec 32 := Scalar.muli v191 c1_i32_179
  let v193 : BitVec 32 := Scalar.addi c0_i32_180 v192
  v193.toNat
def k0_dev26 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v202 : BitVec 32 := Scalar.addi v2 c11_i32_185
  let c16_i32_186 : BitVec 32 := 16#32
  let v203 : BitVec 32 := Scalar.remsi v202 c16_i32_186
  let c1_i32_190 : BitVec 32 := 1#32
  let v204 : BitVec 32 := Scalar.muli v203 c1_i32_190
  let v205 : BitVec 32 := Scalar.addi c0_i32_191 v204
  v205.toNat
def k0_dev27 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_196 : BitVec 32 := 12#32
  let v214 : BitVec 32 := Scalar.addi v2 c12_i32_196
  let c16_i32_197 : BitVec 32 := 16#32
  let v215 : BitVec 32 := Scalar.remsi v214 c16_i32_197
  let c1_i32_201 : BitVec 32 := 1#32
  let v216 : BitVec 32 := Scalar.muli v215 c1_i32_201
  let v217 : BitVec 32 := Scalar.addi c0_i32_202 v216
  v217.toNat
def k0_dev28 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_207 : BitVec 32 := 13#32
  let v226 : BitVec 32 := Scalar.addi v2 c13_i32_207
  let c16_i32_208 : BitVec 32 := 16#32
  let v227 : BitVec 32 := Scalar.remsi v226 c16_i32_208
  let c1_i32_212 : BitVec 32 := 1#32
  let v228 : BitVec 32 := Scalar.muli v227 c1_i32_212
  let v229 : BitVec 32 := Scalar.addi c0_i32_213 v228
  v229.toNat
def k0_dev29 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_218 : BitVec 32 := 14#32
  let v238 : BitVec 32 := Scalar.addi v2 c14_i32_218
  let c16_i32_219 : BitVec 32 := 16#32
  let v239 : BitVec 32 := Scalar.remsi v238 c16_i32_219
  let c1_i32_223 : BitVec 32 := 1#32
  let v240 : BitVec 32 := Scalar.muli v239 c1_i32_223
  let v241 : BitVec 32 := Scalar.addi c0_i32_224 v240
  v241.toNat
def k0_dev30 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_229 : BitVec 32 := 15#32
  let v250 : BitVec 32 := Scalar.addi v2 c15_i32_229
  let c16_i32_230 : BitVec 32 := 16#32
  let v251 : BitVec 32 := Scalar.remsi v250 c16_i32_230
  let c1_i32_234 : BitVec 32 := 1#32
  let v252 : BitVec 32 := Scalar.muli v251 c1_i32_234
  let v253 : BitVec 32 := Scalar.addi c0_i32_235 v252
  v253.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : Index := Scalar.indexCast v2
  let c0_240 : Index := 0#32
  let c0_241 : Index := 0#32
  ![v262.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_416 : BitVec 32 := 0#32
  let c0_i32_417 : BitVec 32 := 0#32
  ![v2.toNat, 0, 0]
def k0_dev31 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_410 : BitVec 32 := 1#32
  let v434 : BitVec 32 := Scalar.addi v2 c1_i32_410
  let c16_i32_411 : BitVec 32 := 16#32
  let v435 : BitVec 32 := Scalar.remsi v434 c16_i32_411
  let c1_i32_414 : BitVec 32 := 1#32
  let v436 : BitVec 32 := Scalar.muli v435 c1_i32_414
  let v437 : BitVec 32 := Scalar.addi c0_i32_415 v436
  v437.toNat
def k0_dev32 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_420 : BitVec 32 := 2#32
  let v446 : BitVec 32 := Scalar.addi v2 c2_i32_420
  let c16_i32_421 : BitVec 32 := 16#32
  let v447 : BitVec 32 := Scalar.remsi v446 c16_i32_421
  let c1_i32_424 : BitVec 32 := 1#32
  let v448 : BitVec 32 := Scalar.muli v447 c1_i32_424
  let v449 : BitVec 32 := Scalar.addi c0_i32_425 v448
  v449.toNat
def k0_dev33 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_430 : BitVec 32 := 3#32
  let v458 : BitVec 32 := Scalar.addi v2 c3_i32_430
  let c16_i32_431 : BitVec 32 := 16#32
  let v459 : BitVec 32 := Scalar.remsi v458 c16_i32_431
  let c1_i32_434 : BitVec 32 := 1#32
  let v460 : BitVec 32 := Scalar.muli v459 c1_i32_434
  let v461 : BitVec 32 := Scalar.addi c0_i32_435 v460
  v461.toNat
def k0_dev34 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_440 : BitVec 32 := 4#32
  let v470 : BitVec 32 := Scalar.addi v2 c4_i32_440
  let c16_i32_441 : BitVec 32 := 16#32
  let v471 : BitVec 32 := Scalar.remsi v470 c16_i32_441
  let c1_i32_444 : BitVec 32 := 1#32
  let v472 : BitVec 32 := Scalar.muli v471 c1_i32_444
  let v473 : BitVec 32 := Scalar.addi c0_i32_445 v472
  v473.toNat
def k0_dev35 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_450 : BitVec 32 := 5#32
  let v482 : BitVec 32 := Scalar.addi v2 c5_i32_450
  let c16_i32_451 : BitVec 32 := 16#32
  let v483 : BitVec 32 := Scalar.remsi v482 c16_i32_451
  let c1_i32_454 : BitVec 32 := 1#32
  let v484 : BitVec 32 := Scalar.muli v483 c1_i32_454
  let v485 : BitVec 32 := Scalar.addi c0_i32_455 v484
  v485.toNat
def k0_dev36 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_460 : BitVec 32 := 6#32
  let v494 : BitVec 32 := Scalar.addi v2 c6_i32_460
  let c16_i32_461 : BitVec 32 := 16#32
  let v495 : BitVec 32 := Scalar.remsi v494 c16_i32_461
  let c1_i32_464 : BitVec 32 := 1#32
  let v496 : BitVec 32 := Scalar.muli v495 c1_i32_464
  let v497 : BitVec 32 := Scalar.addi c0_i32_465 v496
  v497.toNat
def k0_dev37 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_470 : BitVec 32 := 7#32
  let v506 : BitVec 32 := Scalar.addi v2 c7_i32_470
  let c16_i32_471 : BitVec 32 := 16#32
  let v507 : BitVec 32 := Scalar.remsi v506 c16_i32_471
  let c1_i32_474 : BitVec 32 := 1#32
  let v508 : BitVec 32 := Scalar.muli v507 c1_i32_474
  let v509 : BitVec 32 := Scalar.addi c0_i32_475 v508
  v509.toNat
def k0_dev38 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_480 : BitVec 32 := 8#32
  let v518 : BitVec 32 := Scalar.addi v2 c8_i32_480
  let c16_i32_481 : BitVec 32 := 16#32
  let v519 : BitVec 32 := Scalar.remsi v518 c16_i32_481
  let c1_i32_484 : BitVec 32 := 1#32
  let v520 : BitVec 32 := Scalar.muli v519 c1_i32_484
  let v521 : BitVec 32 := Scalar.addi c0_i32_485 v520
  v521.toNat
def k0_dev39 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_490 : BitVec 32 := 9#32
  let v530 : BitVec 32 := Scalar.addi v2 c9_i32_490
  let c16_i32_491 : BitVec 32 := 16#32
  let v531 : BitVec 32 := Scalar.remsi v530 c16_i32_491
  let c1_i32_494 : BitVec 32 := 1#32
  let v532 : BitVec 32 := Scalar.muli v531 c1_i32_494
  let v533 : BitVec 32 := Scalar.addi c0_i32_495 v532
  v533.toNat
def k0_dev40 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_500 : BitVec 32 := 10#32
  let v542 : BitVec 32 := Scalar.addi v2 c10_i32_500
  let c16_i32_501 : BitVec 32 := 16#32
  let v543 : BitVec 32 := Scalar.remsi v542 c16_i32_501
  let c1_i32_504 : BitVec 32 := 1#32
  let v544 : BitVec 32 := Scalar.muli v543 c1_i32_504
  let v545 : BitVec 32 := Scalar.addi c0_i32_505 v544
  v545.toNat
def k0_dev41 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_510 : BitVec 32 := 11#32
  let v554 : BitVec 32 := Scalar.addi v2 c11_i32_510
  let c16_i32_511 : BitVec 32 := 16#32
  let v555 : BitVec 32 := Scalar.remsi v554 c16_i32_511
  let c1_i32_514 : BitVec 32 := 1#32
  let v556 : BitVec 32 := Scalar.muli v555 c1_i32_514
  let v557 : BitVec 32 := Scalar.addi c0_i32_515 v556
  v557.toNat
def k0_dev42 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_520 : BitVec 32 := 12#32
  let v566 : BitVec 32 := Scalar.addi v2 c12_i32_520
  let c16_i32_521 : BitVec 32 := 16#32
  let v567 : BitVec 32 := Scalar.remsi v566 c16_i32_521
  let c1_i32_524 : BitVec 32 := 1#32
  let v568 : BitVec 32 := Scalar.muli v567 c1_i32_524
  let v569 : BitVec 32 := Scalar.addi c0_i32_525 v568
  v569.toNat
def k0_dev43 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_530 : BitVec 32 := 13#32
  let v578 : BitVec 32 := Scalar.addi v2 c13_i32_530
  let c16_i32_531 : BitVec 32 := 16#32
  let v579 : BitVec 32 := Scalar.remsi v578 c16_i32_531
  let c1_i32_534 : BitVec 32 := 1#32
  let v580 : BitVec 32 := Scalar.muli v579 c1_i32_534
  let v581 : BitVec 32 := Scalar.addi c0_i32_535 v580
  v581.toNat
def k0_dev44 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_540 : BitVec 32 := 14#32
  let v590 : BitVec 32 := Scalar.addi v2 c14_i32_540
  let c16_i32_541 : BitVec 32 := 16#32
  let v591 : BitVec 32 := Scalar.remsi v590 c16_i32_541
  let c1_i32_544 : BitVec 32 := 1#32
  let v592 : BitVec 32 := Scalar.muli v591 c1_i32_544
  let v593 : BitVec 32 := Scalar.addi c0_i32_545 v592
  v593.toNat
def k0_dev45 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_550 : BitVec 32 := 15#32
  let v602 : BitVec 32 := Scalar.addi v2 c15_i32_550
  let c16_i32_551 : BitVec 32 := 16#32
  let v603 : BitVec 32 := Scalar.remsi v602 c16_i32_551
  let c1_i32_554 : BitVec 32 := 1#32
  let v604 : BitVec 32 := Scalar.muli v603 c1_i32_554
  let v605 : BitVec 32 := Scalar.addi c0_i32_555 v604
  v605.toNat
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x48x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x24576 : Shape := ⟨2, ![768, 24576]⟩
abbrev S24576x768 : Shape := ⟨2, ![24576, 768]⟩
abbrev S_ : Shape := ⟨0, ![]⟩
abbrev S16x48x768 : Shape := ⟨3, ![16, 48, 768]⟩

abbrev nBuf : Space → Nat
  | .hbm => 9
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x24576, .f32⟩
  | .hbm, ⟨2, _⟩ => ⟨S24576x768, .f32⟩
  | .hbm, ⟨3, _⟩ => ⟨S768x24576, .f32⟩
  | .hbm, ⟨4, _⟩ => ⟨S_, .f32⟩
  | .hbm, ⟨5, _⟩ => ⟨S768x24576, .f32⟩
  | .hbm, ⟨6, _⟩ => ⟨S768x24576, .f32⟩
  | .hbm, ⟨7, _⟩ => ⟨S768x768, .f32⟩
  | .hbm, ⟨8, _⟩ => ⟨S16x48x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Line.lean ====
/-
# The kernel body as a straight line with loops

The printed body writes every signal, transfer and wait out; here the same program is written with one loop per
kind of step, over the fifteen offsets `j : Fin 15`. The two are equal by computation (`body_eq_line`).
-/
module

public import proofs.«01_k».proof.Proof.Gen.KernelIdeal
public import proofs.«01_k».proof.Proof.Gen.KernelIdeal.Skeleton

@[expose] public section

noncomputable section

namespace Cert.AllSum

open Cert.KernelIdeal Cert.KernelIdeal.Gen
open Idealize.ShloMosaic Idealize.ShloMosaic.TcCoe
open Idealize.SL Idealize.SL.Sem

variable {F : FTy → Type} [FloatOps F]

abbrev Line (F : FTy → Type) (α : Type) : Type 1 := Prog (TpuEff nD τ sig (Elt F) Λ₀ .tc) α

/-- Run `f 0`, `f 1`, …, `f (n - 1)` in order, passing a value along, then `k` at the last value. -/
def loop {A α : Type} : (n : ℕ) → (Fin n → A → Line F A) → A → (A → Line F α) → Line F α
  | 0, _, a, k => k a
  | n + 1, f, a, k => (f 0 a).bind fun b => loop n (fun i => f i.succ) b k

/-- The loop that passes no value along. -/
abbrev each {α : Type} (n : ℕ) (f : Fin n → Line F PUnit) (k : Line F α) : Line F α :=
  loop n (fun i _ => f i) ⟨⟩ fun _ => k

/-! ## The buffers -/

abbrev xM : Memref sig .tc .vmem S768x768 .f32 := Memref.whole cc0_stg0_0
abbrev w1M : Memref sig .tc .vmem S768x1536 .f32 := Memref.whole cc0_stg1_0
abbrev w2M : Memref sig .tc .vmem S1536x768 .f32 := Memref.whole cc0_stg2_0
abbrev oM : Memref sig .tc .vmem S16x48x768 .f32 := Memref.whole cc0_stg3_0
abbrev pM : Memref sig .tc .vmem S16x48x768 .f32 := Memref.whole cc0_scratch0
abbrev hM : Memref sig .tc .vmem S768x1536 .f32 := Memref.whole cc0_scratch1
abbrev rM : Memref sig .tc .vmem S15x48x768 .f32 := Memref.whole cc0_scratch2

/-- The chunk of a sixteen-chunk buffer at `off`, as a matrix. -/
abbrev chunk (M : Memref sig .tc .vmem S16x48x768 .f32) (off : Fin 3 → ℕ)
    (h : ∀ a, off a + S1x48x768.size a ≤ S16x48x768.size a) : Memref sig .tc .vmem S48x768 .f32 :=
  (M.slice (Rect.unit (s := S16x48x768) off S1x48x768.size h) (fun _ => rfl)).squeeze S48x768 squeezes_S1x48x768_S48x768

theorem slot_inb (j : Fin 15) : ∀ a, (![j.val, 0, 0] : Fin 3 → ℕ) a + S1x48x768.size a ≤ S15x48x768.size a := by
  revert j; decide

/-- The rectangle of slot `j` of the receive buffer, -/
abbrev slotR (j : Fin 15) : Rect S15x48x768 := Rect.unit (s := S15x48x768) ![j.val, 0, 0] S1x48x768.size (slot_inb j)

/-- and the slot itself, as a matrix. -/
abbrev slot (j : Fin 15) : Memref sig .tc .vmem S48x768 .f32 :=
  (rM.slice (slotR j) (fun _ => rfl)).squeeze S48x768 squeezes_S1x48x768_S48x768

theorem sem_inb (j : Fin 15) : ∀ a, (![j.val] : Fin 1 → ℕ) a + S1.size a ≤ S15.size a := by
  revert j; decide

/-- Semaphore `j` of an array of fifteen. -/
abbrev semAt (A : DmaSems sig S15) (j : Fin 15) : DmaSem sig :=
  ((A.slice (Rect.unit (s := S15) ![j.val] S1.size (sem_inb j))).squeeze S_ squeezes_S1_S_).sem

/-- The runtime's barrier semaphore. -/
abbrev barS : Sem sig := (SemArray.scalar (sig.barrier 0 rfl) : Sems sig S_).sem

/-! ## The devices -/

/-- The device `w` places after `d`, as the kernel computes it. -/
def devWord (d : Dev nD) (w : BitVec 32) : ℕ :=
  (Scalar.addi 0#32 (Scalar.muli (Scalar.remsi (Scalar.addi (Scalar.remsi (Scalar.divsi (Dev.word d) 1#32) 16#32) w) 16#32) 1#32)).toNat

abbrev wd (j : Fin 15) : BitVec 32 := BitVec.ofNat 32 (1 + j.val)

theorem devWord_eq (d : Dev nD) (j : Fin 15) : devWord d (wd j) = (d.val + j.val + 1) % 16 := by
  revert d j; decide +kernel

theorem devWord_lt (d : Dev nD) (j : Fin 15) : devWord d (wd j) < nD := by
  rw [devWord_eq]; exact Nat.mod_lt _ (by decide)

/-- The target of step `j` on device `d`, as the kernel computes it. -/
abbrev tgt (d : Dev nD) (j : Fin 15) : Dev nD := ⟨devWord d (wd j), devWord_lt d j⟩

/-! ## The steps -/

variable (d : Dev nD)

/-- Device `d`'s chunk of the partial products for the target of step `j`; -/
abbrev pFor (j : Fin 15) : Memref sig .tc .vmem S48x768 .f32 := chunk pM (k0_off1 d (wd j)) (k0_off1_inb d j)
/-- its own chunk of the result. -/
abbrev oOwn : Memref sig .tc .vmem S48x768 .f32 := chunk oM (k0_off3 d) (k0_off3_inb d)

/-- The load rectangle of device `d`'s own chunk. -/
abbrev ownR : Rect S16x48x768 := Rect.unit (s := S16x48x768) (k0_off2 d) S1x48x768.size (k0_off2_inb d)

def sigStep (j : Fin 15) : Line F PUnit := semSignalWord (tgt d j) barS 1#32

def send1Step (j : Fin 15) : Line F PUnit :=
  Prog.lift (.enqueueDma (pFor d j) (.remote (Dev.tc (tgt d j)) (slot j) (.dma (semAt cc0_scratch3 j))) (.dma (semAt cc0_scratch4 j))
    ((View.wordExact_bits rfl).reshape _ _) ((View.wordExact_bits rfl).reshape _ _) ⟨⟨rfl, Or.inl rfl⟩, trivial⟩)

def recv1Step (j : Fin 15) (a : FVec F S48x768 .f32) : Line F (FVec F S48x768 .f32) := do
  Prog.lift (.waitDma2 (semAt cc0_scratch4 j) (pFor d j) (slot j) ((View.wordExact_bits rfl).reshape _ _) ((View.wordExact_bits rfl).reshape _ _))
  let v : Vec F S1x48x768 .f32 ← Prog.lift (.load rM (slotR j).toLoadRect (View.loadsAt_vmem h_S1x48x768))
  pure (addf a (shapeCast S48x768 v shapeCasts_S1x48x768_S48x768))

def send2Step (j : Fin 15) : Line F PUnit :=
  Prog.lift (.enqueueDma (oOwn d) (.remote (Dev.tc (tgt d j)) (oOwn d) (.dma (semAt cc0_scratch5 j))) (.dma (semAt cc0_scratch6 j))
    ((View.wordExact_bits rfl).reshape _ _) ((View.wordExact_bits rfl).reshape _ _) ⟨⟨rfl, Or.inl rfl⟩, trivial⟩)

def recv2Step (j : Fin 15) : Line F PUnit :=
  Prog.lift (.waitDma2 (semAt cc0_scratch6 j) (oOwn d) (oOwn d) ((View.wordExact_bits rfl).reshape _ _) ((View.wordExact_bits rfl).reshape _ _))

def sentStep (j : Fin 15) : Line F PUnit := do
  Prog.lift (.waitDma2 (semAt cc0_scratch3 j) (slot j) (pFor d j) ((View.wordExact_bits rfl).reshape _ _) ((View.wordExact_bits rfl).reshape _ _))
  Prog.lift (.waitDma2 (semAt cc0_scratch5 j) (oOwn d) (oOwn d) ((View.wordExact_bits rfl).reshape _ _) ((View.wordExact_bits rfl).reshape _ _))

/-- Everything after the partial products are stored: the two phases. -/
def phases : Line F PUnit :=
  each 15 (send1Step d) <| do
    let v : Vec F S1x48x768 .f32 ← Prog.lift (.load pM (ownR d).toLoadRect (View.loadsAt_vmem h_S1x48x768))
    loop 15 (recv1Step d) (shapeCast S48x768 v shapeCasts_S1x48x768_S48x768) fun a => do
      let _ : Vec F S1x48x768 .f32 ← Prog.lift (.load oM (ownR d).toLoadRect (View.loadsAt_vmem h_S1x48x768))
      Prog.lift (.store oM (ownR d) (shapeCast S1x48x768 a shapeCasts_S48x768_S1x48x768) Finset.univ (View.stores_vmem_bits_univ h_S1x48x768 rfl) (.inl rfl))
      each 15 (send2Step d) <| each 15 (recv2Step d) <| each 15 (sentStep d) <| pure ⟨⟩

/-- The products: `h = relu (x W1)`, then `p = h W2` cut in sixteen chunks. -/
def products : Line F PUnit := do
  let vx : Vec F S768x768 .f32 ← Prog.lift (.load xM (Rect.unit (s := S768x768) ![0, 0] S768x768.size inb_S768x768_S768x768_0_0).toLoadRect (View.loadsAt_vmem h_S768x768))
  let vw : Vec F S768x1536 .f32 ← Prog.lift (.load w1M (Rect.unit (s := S768x1536) ![0, 0] S768x1536.size inb_S768x1536_S768x1536_0_0).toLoadRect (View.loadsAt_vmem h_S768x1536))
  let _ : Vec F S768x1536 .f32 ← Prog.lift (.load hM (Rect.unit (s := S768x1536) ![0, 0] S768x1536.size inb_S768x1536_S768x1536_0_0).toLoadRect (View.loadsAt_vmem h_S768x1536))
  Prog.lift (.store hM (Rect.unit (s := S768x1536) ![0, 0] S768x1536.size inb_S768x1536_S768x1536_0_0) (k0_pay1 vx vw) Finset.univ (View.stores_vmem_bits_univ h_S768x1536 rfl) (.inl rfl))
  let vh : Vec F S768x1536 .f32 ← Prog.lift (.load hM (Rect.unit (s := S768x1536) ![0, 0] S768x1536.size inb_S768x1536_S768x1536_0_0).toLoadRect (View.loadsAt_vmem h_S768x1536))
  let vv : Vec F S1536x768 .f32 ← Prog.lift (.load w2M (Rect.unit (s := S1536x768) ![0, 0] S1536x768.size inb_S1536x768_S1536x768_0_0).toLoadRect (View.loadsAt_vmem h_S1536x768))
  let _ : Vec F S16x48x768 .f32 ← Prog.lift (.load pM (Rect.unit (s := S16x48x768) ![0, 0, 0] S16x48x768.size inb_S16x48x768_S16x48x768_0_0_0).toLoadRect (View.loadsAt_vmem h_S16x48x768))
  Prog.lift (.store pM (Rect.unit (s := S16x48x768) ![0, 0, 0] S16x48x768.size inb_S16x48x768_S16x48x768_0_0_0) (k0_pay2 vh vv) Finset.univ (View.stores_vmem_bits_univ h_S16x48x768 rfl) (.inl rfl))

/-- The whole body. -/
def line : Line F PUnit := do
  let d : Dev nD ← Prog.lift .deviceId
  each 15 (sigStep d) do
    semWaitWord barS 15#32
    products
    phases d

set_option maxRecDepth 65536 in
set_option maxHeartbeats 4000000 in
/-- The printed body is the straight line: both compute to the same sequence of operations. -/
theorem body_eq_line :
    cc0_body (F := F) xM (Memref.isWhole_whole _) w1M (Memref.isWhole_whole _) w2M (Memref.isWhole_whole _) oM (Memref.isWhole_whole _)
      pM (Memref.isWhole_whole _) hM (Memref.isWhole_whole _) rM (Memref.isWhole_whole _) cc0_scratch3 cc0_scratch4 cc0_scratch5 cc0_scratch6
    = line (F := F) := by
  rfl

end Cert.AllSum

end
-- ==== Proof.Cells.lean ====
/-
# Devices, semaphores and the places of a buffer

Step `j` of device `c` is addressed to the device `fwd c j`, and the step `j` addressed to `c` is the device
`bwd c j`'s. A device has 61 semaphores of its own: the barrier and four arrays of fifteen. The sixteen chunks of a
result-sized buffer are disjoint and cover it; so do the fifteen slots of the receive buffer.
-/
module

public import proofs.«01_k».proof.Proof.Line
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.AllSum

open Cert.KernelIdeal Cert.KernelIdeal.Gen
open Idealize.ShloMosaic Idealize.ShloMosaic.TcCoe
open Idealize.ShloMosaic.ValueIdx (ix2 ix3 eq_ix2 eq_ix3 reshapeEquiv_ix2_1ab)
open Idealize.SL Idealize.SL.BI Idealize.SL.Sem

/-! ## Devices -/

set_option backward.proofsInPublic true in
/-- The device `j + 1` places after `c`; -/
def fwd (c : Dev nD) (j : Fin 15) : Dev nD := ⟨(c.val + j.val + 1) % 16, Nat.mod_lt _ (by decide)⟩
set_option backward.proofsInPublic true in
/-- the device `j + 1` places before `c`. -/
def bwd (c : Dev nD) (j : Fin 15) : Dev nD := ⟨(c.val + 15 - j.val) % 16, Nat.mod_lt _ (by decide)⟩

theorem bwd_fwd (c : Dev nD) (j : Fin 15) : bwd (fwd c j) j = c := by revert c j; decide +kernel
theorem fwd_bwd (c : Dev nD) (j : Fin 15) : fwd (bwd c j) j = c := by revert c j; decide +kernel
/-- Going back `j + 1` places is going forward by the opposite step. -/
theorem bwd_eq (c : Dev nD) (j : Fin 15) : bwd c j = fwd c j.rev := by revert c j; decide +kernel
theorem bwd_rev (c : Dev nD) (j : Fin 15) : bwd c j.rev = fwd c j := by rw [bwd_eq, Fin.rev_rev]
theorem fwd_injective (c : Dev nD) : Function.Injective (fwd c) := by revert c; decide +kernel

/-- Going forward `j + 1` places, as a bijection of the devices. -/
def turn (j : Fin 15) : Dev nD ≃ Dev nD := ⟨fun c => fwd c j, fun c => bwd c j, fun c => bwd_fwd c j, fun c => fwd_bwd c j⟩

/-- Every device but `c` is `fwd c j` for one `j`. -/
theorem others (c : Dev nD) : Finset.univ.erase c = Finset.univ.map ⟨fwd c, fwd_injective c⟩ := by
  revert c; decide +kernel

/-- The target of step `j`, as the kernel computes it, is `fwd c j`. -/
theorem tgt_eq (c : Dev nD) (j : Fin 15) : tgt c j = fwd c j := Fin.ext (devWord_eq c j)

/-! ## Semaphores -/

/-- The four arrays: phase 1 sending and receiving, phase 2 sending and receiving. -/
abbrev arr : Fin 4 → DmaSems sig S15
  | 0 => cc0_scratch3
  | 1 => cc0_scratch4
  | 2 => cc0_scratch5
  | 3 => cc0_scratch6

/-- A device's semaphores: the barrier (`none`), and member `j` of array `k`. -/
abbrev CI : Type := Option (Fin 4 × Fin 15)

abbrev csem : CI → SemLoc sig
  | none => .reg barS
  | some kj => .dma (semAt (arr kj.1) kj.2)

/-- The kernel's own semaphores, the four arrays. -/
abbrev osem (kj : Fin 4 × Fin 15) : SemLoc sig := csem (some kj)

theorem semAt_val (kj : Fin 4 × Fin 15) : (semAt (arr kj.1) kj.2).val = 4 + 15 * kj.1.val + kj.2.val := by
  revert kj; decide +kernel

theorem csem_injective : Function.Injective csem := by
  intro x y h
  match x, y with
  | none, none => rfl
  | none, some b => exact absurd h (fun h => by cases h)
  | some a, none => exact absurd h (fun h => by cases h)
  | some a, some b =>
    have h' : semAt (arr a.1) a.2 = semAt (arr b.1) b.2 := SemLoc.dma.inj h
    have hv := congrArg Fin.val h'
    rw [semAt_val, semAt_val] at hv
    have h1 : a.1 = b.1 := Fin.ext (by omega)
    have h2 : a.2 = b.2 := Fin.ext (by rw [h1] at hv; omega)
    rw [Prod.ext h1 h2]

open Classical in
/-- Which of a device's 61 semaphores `sm` is, if any. -/
def decode (sm : SemLoc sig) : Option CI := if h : ∃ x, csem x = sm then some h.choose else none

theorem decode_csem (x : CI) : decode (csem x) = some x := by
  unfold decode
  have h : ∃ y, csem y = csem x := ⟨x, rfl⟩
  rw [dif_pos h, csem_injective h.choose_spec]

/-- Semaphore `x` of device `c`. -/
abbrev kcell (cx : Dev nD × CI) : GSem nD τ sig := ((cx.1 : Thread nD τ), csem cx.2)
abbrev barCell (c : Dev nD) : GSem nD τ sig := kcell (c, none)
abbrev dmaCell (k : Fin 4) (c : Dev nD) (j : Fin 15) : GSem nD τ sig := kcell (c, some (k, j))

theorem kcell_injective : Function.Injective (kcell : Dev nD × CI → GSem nD τ sig) := by
  rintro ⟨c, x⟩ ⟨c', x'⟩ h
  have h1 : c = c' := congrArg (fun g : GSem nD τ sig => g.1.1) h
  have h2 : x = x' := csem_injective (congrArg Prod.snd h)
  rw [h1, h2]

/-- The launch's staging semaphores are none of the 61. -/
theorem decode_stage (s : Fin 64) (h : s.val < 4) : decode (.dma s) = none := by
  unfold decode
  rw [dif_neg]
  rintro ⟨x, hx⟩
  match x with
  | none => exact absurd hx (fun h => by cases h)
  | some kj =>
    have h' : semAt (arr kj.1) kj.2 = s := SemLoc.dma.inj hx
    have := semAt_val kj
    rw [h'] at this; omega

/-! ## Places -/

theorem row_inb (t : Dev nD) : ∀ a, (![t.val, 0, 0] : Fin 3 → ℕ) a + S1x48x768.size a ≤ S16x48x768.size a := by
  revert t; decide

/-- Chunk `t` of a buffer of sixteen chunks. -/
abbrev chunkAt (M : Memref sig .tc .vmem S16x48x768 .f32) (t : Dev nD) : Memref sig .tc .vmem S48x768 .f32 :=
  chunk M ![t.val, 0, 0] (row_inb t)

abbrev rowR (t : Dev nD) : Rect S16x48x768 := Rect.unit (s := S16x48x768) ![t.val, 0, 0] S1x48x768.size (row_inb t)

theorem chunk_congr (M : Memref sig .tc .vmem S16x48x768 .f32) {off off' : Fin 3 → ℕ} (h : off = off') (i) (i') :
    chunk M off i = chunk M off' i' := by
  subst h; rfl

theorem pFor_eq (c : Dev nD) (j : Fin 15) : pFor c j = chunkAt pM (fwd c j) := chunk_congr _ (k0_off1_eq c j) _ _
theorem oOwn_eq (c : Dev nD) : oOwn c = chunkAt oM c := chunk_congr _ (k0_off3_eq c) _ _
theorem ownR_eq (c : Dev nD) : ownR c = rowR c := Rect.unit_congr (k0_off2_eq c) _ _

theorem mem_row (t : Dev nD) (i : S16x48x768.Idx) : Iff (i ∈ (rowR t).set) ((i 0).val = t.val) := by
  rw [Rect.mem_set_unit]
  constructor
  · intro h; have := h 0; simp at this; omega
  · intro h a
    match a with
    | 0 => simp; omega
    | 1 => simpa using (i 1).isLt
    | 2 => simpa using (i 2).isLt

theorem mem_slot (j : Fin 15) (i : S15x48x768.Idx) : Iff (i ∈ (slotR j).set) ((i 0).val = j.val) := by
  rw [Rect.mem_set_unit]
  constructor
  · intro h; have := h 0; simp at this; omega
  · intro h a
    match a with
    | 0 => simp; omega
    | 1 => simpa using (i 1).isLt
    | 2 => simpa using (i 2).isLt

theorem row_disjoint (t t' : Dev nD) (h : t ≠ t') : Disjoint (rowR t).set (rowR t').set :=
  Finset.disjoint_left.mpr fun i hi hi' => h (Fin.ext (((mem_row t i).mp hi).symm.trans ((mem_row t' i).mp hi')))

theorem row_cover : Finset.univ.biUnion (fun t : Dev nD => (rowR t).set) = Finset.univ :=
  Finset.eq_univ_iff_forall.mpr fun i => Finset.mem_biUnion.mpr ⟨i 0, Finset.mem_univ _, (mem_row (i 0) i).mpr rfl⟩

theorem slot_disjoint (j j' : Fin 15) (h : j ≠ j') : Disjoint (slotR j).set (slotR j').set :=
  Finset.disjoint_left.mpr fun i hi hi' => h (Fin.ext (((mem_slot j i).mp hi).symm.trans ((mem_slot j' i).mp hi')))

theorem slot_cover : Finset.univ.biUnion (fun j : Fin 15 => (slotR j).set) = Finset.univ :=
  Finset.eq_univ_iff_forall.mpr fun i => Finset.mem_biUnion.mpr ⟨i 0, Finset.mem_univ _, (mem_slot (i 0) i).mpr rfl⟩

/-- The elements under a chunk of a whole buffer are its row rectangle's. -/
theorem oCh_set (t : Dev nD) : (chunkAt oM t).view.set = (rowR t).set :=
  (View.set_reshape _ _).trans (View.set_slice_whole cc0_stg3_0 (rowR t))
theorem pCh_set (t : Dev nD) : (chunkAt pM t).view.set = (rowR t).set :=
  (View.set_reshape _ _).trans (View.set_slice_whole cc0_scratch0 (rowR t))
theorem slot_set (j : Fin 15) : (slot j).view.set = (slotR j).set :=
  (View.set_reshape _ _).trans (View.set_slice_whole cc0_scratch2 (slotR j))

theorem row_emb (t : Dev nD) (x : S1x48x768.Idx) : (rowR t).emb x = ix3 t (x 1) (x 2) := by
  funext a
  have h0 : (x 0).val = 0 := by have := (x 0).isLt; change (x 0).val < 1 at this; omega
  match a with
  | 0 => exact Fin.ext (by rw [Rect.emb_apply]; simp [h0])
  | 1 => exact Fin.ext (by rw [Rect.emb_apply]; simp)
  | 2 => exact Fin.ext (by rw [Rect.emb_apply]; simp)

theorem slotR_emb (j : Fin 15) (x : S1x48x768.Idx) : (slotR j).emb x = ix3 j (x 1) (x 2) := by
  funext a
  have h0 : (x 0).val = 0 := by have := (x 0).isLt; change (x 0).val < 1 at this; omega
  match a with
  | 0 => exact Fin.ext (by rw [Rect.emb_apply]; simp [h0])
  | 1 => exact Fin.ext (by rw [Rect.emb_apply]; simp)
  | 2 => exact Fin.ext (by rw [Rect.emb_apply]; simp)

/-- Dropping a unit leading axis carries index `(x, y)` to `(0, x, y)`. -/
theorem unsqueeze_ix (h : S48x768.numel = S1x48x768.numel) (x : S48x768.Idx) :
    Shape.reshapeEquiv h x = ix3 (0 : Fin 1) (x 0) (x 1) := by
  rw [eq_ix2 x]; exact reshapeEquiv_ix2_1ab h (x 0) (x 1)

/-- Element `(x, y)` of a chunk is element `(t, x, y)` of its buffer; -/
theorem oCh_emb (t : Dev nD) (x : S48x768.Idx) : (chunkAt oM t).view.emb x = ix3 t (x 0) (x 1) := by
  show (rowR t).emb (Shape.reshapeEquiv _ x) = _
  rw [unsqueeze_ix]; exact row_emb t _
theorem pCh_emb (t : Dev nD) (x : S48x768.Idx) : (chunkAt pM t).view.emb x = ix3 t (x 0) (x 1) := by
  show (rowR t).emb (Shape.reshapeEquiv _ x) = _
  rw [unsqueeze_ix]; exact row_emb t _
/-- and of a slot, element `(j, x, y)`. -/
theorem slot_emb (j : Fin 15) (x : S48x768.Idx) : (slot j).view.emb x = ix3 j (x 0) (x 1) := by
  show (slotR j).emb (Shape.reshapeEquiv _ x) = _
  rw [unsqueeze_ix]; exact slotR_emb j _

/-- The amount a transfer of one chunk raises its semaphores by. -/
def N : ℕ := (slot 0).view.dmaCredit
theorem N_pos : 0 < N := View.dmaCredit_pos _ (by decide)
theorem slot_credit (j : Fin 15) : (slot j).view.dmaCredit = N := rfl
theorem oCh_credit (t : Dev nD) : (chunkAt oM t).view.dmaCredit = N := rfl
theorem pCh_credit (t : Dev nD) : (chunkAt pM t).view.dmaCredit = N := rfl

end Cert.AllSum

end
-- ==== Proof.Plan.lean ====
/-
# The plan: contents and schedule

What each device's buffers hold at each stage, and who hands whom what through which semaphore.

* The barrier of `c`: fifteen units. Device `bwd c j` pays unit `j`, handing `c` the slot of its receive buffer that `c`
  will write and chunk `c` of its result buffer.
* The phase 1 receive semaphore `j` of `c`: paid by `bwd c j`'s transfer, handing `c` its slot `j` holding chunk `c` of
  that device's partial products; the sender's own semaphore returns the chunk sent.
* The phase 2 receive semaphore `j` of `c`: paid by `bwd c j`'s transfer, handing `c` chunk `bwd c j` of its result
  buffer, holding that device's sum; the sender's own semaphore returns the share of its chunk that was lent.

A device waits on its barrier owing both phases' transfers, on phase 1 owing phase 2's, and on phase 2 owing nothing.
-/
module

public import proofs.«01_k».proof.Proof.Cells
public import proofs.«01_k».proof.Proof.Gen.KernelIdeal.Launch
public import Idealize.ShloMosaic.Lib.Rounds
public import Idealize.ShloMosaic.Lib.Transfers
public import Idealize.ShloMosaic.Lib.Ring

@[expose] public section

noncomputable section

namespace Cert.AllSum

open Cert.KernelIdeal Cert.KernelIdeal.Gen
open Idealize.ShloMosaic Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s staged operands; -/
def xstg (c : Dev nD) : (cc0_stg0_0 : Ref sig .tc).ty.Contents (Elt F) :=
  (win0_0.blk (0 : Fin 1)).view.read (Elt F) ((s₀ m ρ).mem ((c : Thread nD τ).loc main_arg0))
def w1stg (c : Dev nD) : (cc0_stg1_0 : Ref sig .tc).ty.Contents (Elt F) :=
  (win0_1.blk (0 : Fin 1)).view.read (Elt F) ((s₀ m ρ).mem ((c : Thread nD τ).loc main_arg1))
def w2stg (c : Dev nD) : (cc0_stg2_0 : Ref sig .tc).ty.Contents (Elt F) :=
  (win0_2.blk (0 : Fin 1)).view.read (Elt F) ((s₀ m ρ).mem ((c : Thread nD τ).loc main_arg2))

/-- its hidden layer and its partial products. -/
def hid (c : Dev nD) : (cc0_scratch1 : Ref sig .tc).ty.Contents (Elt F) := k0_pay1 (xstg m ρ c) (w1stg m ρ c)
def part (c : Dev nD) : (cc0_scratch0 : Ref sig .tc).ty.Contents (Elt F) := k0_pay2 (hid m ρ c) (w2stg m ρ c)

/-- Row `t` of sixteen; of fifteen. -/
def row16 (f : Vec F S16x48x768 .f32) (t : Dev nD) : Vec F S1x48x768 .f32 := fun x => f (ix3 t (x 1) (x 2))
def row15 (f : Vec F S15x48x768 .f32) (j : Fin 15) : Vec F S1x48x768 .f32 := fun x => f (ix3 j (x 1) (x 2))

/-- The receive buffer after phase 1: slot `j` holds chunk `c` of device `bwd c j`'s partial products. -/
def rfin (c : Dev nD) : (cc0_scratch2 : Ref sig .tc).ty.Contents (Elt F) :=
  fun i : S15x48x768.Idx => part m ρ (bwd c (i 0)) (ix3 c (i 1) (i 2))

/-- The running sum of device `c`: its own chunk, then slot by slot. -/
def acc (c : Dev nD) : ℕ → FVec F S48x768 .f32
  | 0 => shapeCast S48x768 (row16 (part m ρ c) c) shapeCasts_S1x48x768_S48x768
  | n + 1 => if h : n < 15 then addf (acc c n) (shapeCast S48x768 (row15 (rfin m ρ c) ⟨n, h⟩) shapeCasts_S1x48x768_S48x768) else acc c n

theorem acc_succ (c : Dev nD) (j : Fin 15) :
    acc m ρ c (j.val + 1) = addf (acc m ρ c j.val) (shapeCast S48x768 (row15 (rfin m ρ c) j) shapeCasts_S1x48x768_S48x768) := by
  rw [acc, dif_pos j.isLt]

/-- Device `c`'s sum, as stored; -/
def sumAt (c : Dev nD) : Vec F S1x48x768 .f32 := shapeCast S1x48x768 (acc m ρ c 15) shapeCasts_S48x768_S1x48x768
/-- and the result, the same on every device: chunk `t` is device `t`'s sum. -/
def ofin : (cc0_stg3_0 : Ref sig .tc).ty.Contents (Elt F) :=
  fun i : S16x48x768.Idx => sumAt m ρ (i 0) (ix3 (0 : Fin 1) (i 1) (i 2))

/-! ## Holding a slot, a chunk -/

/-- Device `c` holds its slot `j` at contents `f`; -/
def slotPts (c : Dev nD) (j : Fin 15) (f : Buf (Elt F) ((c : Thread nD τ).loc cc0_scratch2)) : sProp 𝕄 :=
  (slot j).view.loc (c : Thread nD τ) ↦[(slot j).view.set]{fullShare} f
/-- chunk `t` of its partial products at `f`; -/
def pPts (c t : Dev nD) (f : Buf (Elt F) ((c : Thread nD τ).loc cc0_scratch0)) : sProp 𝕄 :=
  (chunkAt pM t).view.loc (c : Thread nD τ) ↦[(chunkAt pM t).view.set]{fullShare} f
/-- share `q` of chunk `t` of its result at `f`. -/
def oPts (c t : Dev nD) (q : PosShare TreeShare) (f : Buf (Elt F) ((c : Thread nD τ).loc cc0_stg3_0)) : sProp 𝕄 :=
  (chunkAt oM t).view.loc (c : Thread nD τ) ↦[(chunkAt oM t).view.set]{q} f

omit [FloatOps F] in
instance slotPts_storable (c : Dev nD) (j) (f) : BI.Storable (upEmb : UEmb _ 𝕄) (slotPts (F := F) c j f) := by unfold slotPts; infer_instance
omit [FloatOps F] in
instance pPts_storable (c t : Dev nD) (f) : BI.Storable (upEmb : UEmb _ 𝕄) (pPts (F := F) c t f) := by unfold pPts; infer_instance
omit [FloatOps F] in
instance oPts_storable (c t : Dev nD) (q) (f) : BI.Storable (upEmb : UEmb _ 𝕄) (oPts (F := F) c t q f) := by unfold oPts; infer_instance

omit [FloatOps F] in
theorem slotPts_eq (c : Dev nD) (j) (f) :
    slotPts (F := F) c j f = (((c : Thread nD τ).loc cc0_scratch2) ↦[(slotR j).set]{fullShare} f : sProp 𝕄) := by unfold slotPts; rw [slot_set]
omit [FloatOps F] in
theorem pPts_eq (c t : Dev nD) (f) :
    pPts (F := F) c t f = (((c : Thread nD τ).loc cc0_scratch0) ↦[(rowR t).set]{fullShare} f : sProp 𝕄) := by unfold pPts; rw [pCh_set]
omit [FloatOps F] in
theorem oPts_eq (c t : Dev nD) (q) (f) :
    oPts (F := F) c t q f = (((c : Thread nD τ).loc cc0_stg3_0) ↦[(rowR t).set]{q} f : sProp 𝕄) := by unfold oPts; rw [oCh_set]

omit [FloatOps F] in
/-- A buffer of sixteen chunks held whole is its chunk `c` and, for each step, the chunk of the step's target. -/
theorem chunks_around (c : Dev nD) (Φ : Dev nD → sProp 𝕄) :
    bigSep Finset.univ Φ = iprop(Φ c ∗ bigSep Finset.univ fun j : Fin 15 => Φ (fwd c j)) := by
  rw [bigSep_univ_at Φ c, others, bigSep_map]; rfl

omit [FloatOps F] in
theorem rev_sep (Φ : Fin 15 → sProp 𝕄) : (bigSep Finset.univ fun j : Fin 15 => Φ j.rev) = bigSep Finset.univ Φ :=
  (bigSep_univ_equiv Fin.revPerm Φ).symm

omit [FloatOps F] in
theorem p_whole (c : Dev nD) (f : Buf (Elt F) ((c : Thread nD τ).loc cc0_scratch0)) :
    (((c : Thread nD τ).loc cc0_scratch0) ↦{fullShare} f : sProp 𝕄) = iprop(pPts c c f ∗ bigSep Finset.univ fun j : Fin 15 => pPts c (fwd c j) f) := by
  rw [Ring.pointsTo_blocks (fun t : Dev nD => (rowR t).set) row_disjoint row_cover f, ← chunks_around c fun t => pPts c t f]
  exact bigSep_congr fun t _ => (pPts_eq c t f).symm
omit [FloatOps F] in
theorem o_whole (c : Dev nD) (f : Buf (Elt F) ((c : Thread nD τ).loc cc0_stg3_0)) :
    (((c : Thread nD τ).loc cc0_stg3_0) ↦{fullShare} f : sProp 𝕄) = iprop(oPts c c fullShare f ∗ bigSep Finset.univ fun j : Fin 15 => oPts c (fwd c j) fullShare f) := by
  rw [Ring.pointsTo_blocks (fun t : Dev nD => (rowR t).set) row_disjoint row_cover f, ← chunks_around c fun t => oPts c t fullShare f]
  exact bigSep_congr fun t _ => (oPts_eq c t fullShare f).symm
omit [FloatOps F] in
theorem r_whole (c : Dev nD) (f : Buf (Elt F) ((c : Thread nD τ).loc cc0_scratch2)) :
    (((c : Thread nD τ).loc cc0_scratch2) ↦{fullShare} f : sProp 𝕄) = bigSep Finset.univ fun j : Fin 15 => slotPts c j f := by
  rw [Ring.pointsTo_blocks (fun j : Fin 15 => (slotR j).set) slot_disjoint slot_cover f]
  exact bigSep_congr fun j _ => (slotPts_eq c j f).symm

/-- The share of its own chunk lent to the transfer of step `j`; what is kept. -/
abbrev lent (j : Fin 15) : PosShare TreeShare := shareTok fullShare 15 j
abbrev kept : PosShare TreeShare := shareDrop fullShare 15

omit [FloatOps F] in
theorem o_shares (c t : Dev nD) (f) :
    oPts (F := F) c t fullShare f = iprop(oPts c t kept f ∗ bigSep Finset.univ fun j : Fin 15 => oPts c t (lent j) f) := by
  unfold oPts
  exact BI.Entails.antisymm (pointsTo_toks_split fullShare 15) (pointsTo_toks_join fullShare 15)

/-! ## What lands -/

/-- Chunk `fwd c j` of `c`'s partial products, written into slot `j` of `fwd c j`, is what that slot holds after phase 1. -/
theorem landed1 (c : Dev nD) (j : Fin 15) (fd : Buf (Elt F) ((fwd c j : Thread nD τ).loc cc0_scratch2)) :
    ∀ i ∈ (slot j).view.set, (slot j).view.write (Elt F) fd ((chunkAt pM (fwd c j)).view.read (Elt F) (part m ρ c)) Finset.univ i
      = rfin m ρ (fwd c j) i := by
  intro i hi
  obtain ⟨x, -, rfl⟩ := Finset.mem_map.mp hi
  rw [View.write_emb_of_mem _ _ (Finset.mem_univ x), View.read_apply, slot_emb, pCh_emb]
  simp only [cast_cast, cast_eq]
  show part m ρ c (ix3 (fwd c j) (x 0) (x 1)) = part m ρ (bwd (fwd c j) j) (ix3 (fwd c j) (x 0) (x 1))
  rw [bwd_fwd]

omit [FloatOps F] in
/-- A chunk written from the same chunk elsewhere holds what that one held. -/
theorem landed2 (t : Dev nD) (fd f : Vec F S16x48x768 .f32) :
    ∀ i ∈ (chunkAt oM t).view.set, (chunkAt oM t).view.write (Elt F) fd ((chunkAt oM t).view.read (Elt F) f) Finset.univ i = f i := by
  intro i hi
  obtain ⟨x, -, rfl⟩ := Finset.mem_map.mp hi
  rw [View.write_emb_of_mem _ _ (Finset.mem_univ x), View.read_apply]
  simp only [cast_cast, cast_eq]

/-- The sum stored to a device's own chunk is what the result has there. -/
theorem stored (c : Dev nD) (f : Vec F S16x48x768 .f32) :
    ∀ i ∈ (rowR c).set, (oM.access (rowR c)).write (Elt F) f (sumAt m ρ c) Finset.univ i = ofin m ρ i := by
  intro i hi
  obtain ⟨x, -, rfl⟩ := Finset.mem_map.mp (show i ∈ (oM.access (rowR c)).set from (View.set_slice_whole cc0_stg3_0 (rowR c)).symm ▸ hi)
  rw [View.write_emb_of_mem _ _ (Finset.mem_univ x)]
  simp only [cast_eq]
  show sumAt m ρ c x = ofin m ρ ((rowR c).emb x)
  rw [row_emb]
  show sumAt m ρ c x = sumAt m ρ c (ix3 0 (x 1) (x 2))
  congr 1
  have h0 : x 0 = (0 : Fin 1) := Subsingleton.elim (α := Fin 1) _ _
  exact (eq_ix3 x).trans (by rw [h0]; rfl)

omit [FloatOps F] in
/-- A load of a row reads that row. -/
theorem read_p (t : Dev nD) (f : Vec F S16x48x768 .f32) : (pM.access (rowR t)).read (Elt F) f = row16 f t := by
  funext x
  rw [View.read_apply]
  simp only [cast_eq]
  show f ((rowR t).emb x) = _
  rw [row_emb]; rfl
omit [FloatOps F] in
theorem read_r (j : Fin 15) (f : Vec F S15x48x768 .f32) : (rM.access (slotR j)).read (Elt F) f = row15 f j := by
  funext x
  rw [View.read_apply]
  simp only [cast_eq]
  show f ((slotR j).emb x) = _
  rw [slotR_emb]; rfl

/-! ## The schedule -/

/-- What `bwd c j` hands `c` with unit `j` of `c`'s barrier: the slot `c` will write, and chunk `c` of its result. -/
def barPay (c : Dev nD) (j : Fin 15) : sProp 𝕄 :=
  iprop((∃ f, slotPts (bwd c j) j.rev f) ∗ ∃ f, oPts (bwd c j) c fullShare f)

/-- What semaphore `j` of array `k` hands device `c`. -/
def xferPay (c : Dev nD) (k : Fin 4) (j : Fin 15) : sProp 𝕄 := match k with
  | 0 => pPts c (fwd c j) (part m ρ c)
  | 1 => slotPts c j (rfin m ρ c)
  | 2 => oPts c c (lent j) (ofin m ρ)
  | 3 => oPts c (bwd c j) fullShare (ofin m ρ)

instance xferPay_storable (c : Dev nD) (k) (j) : BI.Storable (upEmb : UEmb _ 𝕄) (xferPay (F := F) m ρ c k j) := by
  unfold xferPay; split <;> infer_instance

def dutiesOf : Option CI → Finset (Fin 15)
  | none => ∅
  | some none => Finset.univ
  | some (some _) => {0}

def payOf (c : Dev nD) (d : Fin 15) : Option CI → sProp 𝕄
  | none => iprop(emp)
  | some none => barPay c d
  | some (some kj) => xferPay m ρ c kj.1 kj.2

def amountOf : Option CI → ℕ
  | some none => 1
  | _ => N

/-- One round: a barrier's fifteen units, every other semaphore's one transfer. -/
def plan : Rounds.Schedule (GSem nD τ sig) (Fin 15) 𝕄 where
  duties g r := if r = 0 ∧ g.1.2 = .tc then dutiesOf (decode g.2) else ∅
  unitless _ := False
  amount g _ _ := amountOf (decode g.2)
  payload g _ d := payOf m ρ g.1.1 d (decode g.2)
  amount_pos g _ _ _ := by
    rcases decode g.2 with _ | _ | kj
    · exact N_pos
    · exact Nat.one_pos
    · exact N_pos

instance plan_payload_storable (g : GSem nD τ sig) (r : ℕ) (d : Fin 15) :
    BI.Storable (upEmb : UEmb _ 𝕄) ((plan (F := F) m ρ).payload g r d) := by
  show BI.Storable upEmb (payOf m ρ g.1.1 d (decode g.2))
  rcases decode g.2 with _ | _ | kj
  · show BI.Storable upEmb (iprop(emp) : sProp 𝕄); infer_instance
  · show BI.Storable upEmb (barPay g.1.1 d); unfold barPay; infer_instance
  · exact xferPay_storable m ρ _ _ _

theorem duties_at (c : Dev nD) (x : CI) : (plan (F := F) m ρ).duties (kcell (c, x)) 0 = dutiesOf (some x) := by
  dsimp only [plan]; rw [if_pos ⟨rfl, rfl⟩, decode_csem]
theorem duties_later (g : GSem nD τ sig) : ∀ r, 1 ≤ r → (plan (F := F) m ρ).duties g r = ∅ :=
  fun r hr => by dsimp only [plan]; rw [if_neg fun h => by omega]
theorem amount_at (c : Dev nD) (x : CI) (d : Fin 15) : (plan (F := F) m ρ).amount (kcell (c, x)) 0 d = amountOf (some x) := by
  dsimp only [plan]; rw [decode_csem]
theorem payload_at (c : Dev nD) (x : CI) (d : Fin 15) : (plan (F := F) m ρ).payload (kcell (c, x)) 0 d = payOf m ρ c d (some x) := by
  dsimp only [plan]; rw [decode_csem]

theorem expect_bar (c : Dev nD) : (plan (F := F) m ρ).expect (barCell c) 0 = 15 := by
  unfold Schedule.expect Schedule.amountOf
  rw [duties_at, Finset.sum_congr rfl fun d _ => amount_at m ρ c none d]; rfl
theorem expect_dma (k : Fin 4) (c : Dev nD) (j : Fin 15) : (plan (F := F) m ρ).expect (dmaCell k c j) 0 = N := by
  unfold Schedule.expect Schedule.amountOf
  rw [duties_at, Finset.sum_congr rfl fun d _ => amount_at m ρ c (some (k, j)) d]; exact Finset.sum_singleton _ _

/-- The whole of a barrier's round: what the fifteen others handed over, by the step that will use it. -/
theorem rest_bar (c : Dev nD) :
    bigSep ((plan (F := F) m ρ).duties (barCell c) 0 \ ∅) (fun d => (plan (F := F) m ρ).payload (barCell c) 0 d)
      = bigSep Finset.univ fun j : Fin 15 => iprop((∃ f, slotPts (fwd c j) j f) ∗ ∃ f, oPts (fwd c j) c fullShare f) := by
  rw [Finset.sdiff_empty, duties_at, ← rev_sep fun j : Fin 15 => iprop((∃ f, slotPts (fwd c j) j f) ∗ ∃ f, oPts (fwd c j) c fullShare f)]
  refine bigSep_congr fun d _ => ?_
  rw [payload_at]; show barPay c d = _
  unfold barPay; rw [bwd_eq]
theorem rest_dma (k : Fin 4) (c : Dev nD) (j : Fin 15) :
    bigSep ((plan (F := F) m ρ).duties (dmaCell k c j) 0 \ ∅) (fun d => (plan (F := F) m ρ).payload (dmaCell k c j) 0 d) = xferPay m ρ c k j := by
  rw [Finset.sdiff_empty, duties_at]; show bigSep {0} _ = _
  rw [bigSep_singleton, payload_at]; rfl

/-! ## What is owed -/

/-- What is still to come of a family of debts paid in order of the step, from step `n` on. -/
def rem (f : Fin 15 → CellTallies nD τ sig Unit) (n : ℕ) : CellTallies nD τ sig Unit := ∑ j ∈ Finset.univ.filter (fun j : Fin 15 => n ≤ j.val), f j

theorem rem_step (f : Fin 15 → CellTallies nD τ sig Unit) (j : Fin 15) : rem f j.val = rem f (j.val + 1) + f j := by
  unfold rem
  rw [show (Finset.univ.filter fun i : Fin 15 => j.val ≤ i.val) = insert j (Finset.univ.filter fun i : Fin 15 => j.val + 1 ≤ i.val) from
    Finset.ext fun i => by simp only [Finset.mem_filter, Finset.mem_insert, Finset.mem_univ, true_and, Fin.ext_iff]; omega,
    Finset.sum_insert (by simp), add_comm]
theorem rem_end (f : Fin 15 → CellTallies nD τ sig Unit) : rem f 15 = 0 := by
  unfold rem
  rw [Finset.filter_false_of_mem (fun j _ => by have := j.isLt; omega), Finset.sum_empty]
theorem rem_all (f : Fin 15 → CellTallies nD τ sig Unit) : rem f 0 = ∑ j, f j := by
  unfold rem
  rw [Finset.filter_true_of_mem (fun j _ => Nat.zero_le _)]

/-- A unit to each other device's barrier; a transfer's amount to each other device's receive semaphore of array `k`. -/
abbrev owesBar (c : Dev nD) (j : Fin 15) : CellTallies nD τ sig Unit := tallyAt (barCell (fwd c j)) () 1
abbrev owesDma (k : Fin 4) (c : Dev nD) (j : Fin 15) : CellTallies nD τ sig Unit := tallyAt (dmaCell k (fwd c j) j) () N

/-- What device `c` owes at launch. -/
def O₀ (c : Dev nD) : CellTallies nD τ sig Unit := rem (owesBar c) 0 + (rem (owesDma 1 c) 0 + rem (owesDma 3 c) 0)

def L (g : GSem nD τ sig) : Finset Unit := if g.1.2 = .tc then {()} else ∅
def lvOf : Option CI → ℕ
  | some none => 1
  | some (some (1, _)) => 2
  | some (some (3, _)) => 3
  | _ => 0
/-- Barriers at 1, phase 1 receiving at 2, phase 2 receiving at 3, everything else at 0. -/
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (x : CI) (u : Unit) : lv (kcell (c, x)) u = lvOf (some x) := by unfold lv; rw [decode_csem]

/-- Something is owed on a cell only by one of the family's debts. -/
theorem rem_pos {f : Fin 15 → CellTallies nD τ sig Unit} {n : ℕ} {g : GSem nD τ sig} {u : Unit} (h : 0 < rem f n g u) :
    ∃ j, 0 < f j g u := by
  by_contra hn
  push Not at hn
  have : rem f n g u = 0 := by
    unfold rem
    rw [Finset.sum_apply, Finsupp.finset_sum_apply]
    exact Finset.sum_eq_zero fun j _ => Nat.le_zero.mp (hn j)
  omega

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- Debts lie on cells of the plan, above level `l`. -/
def Above (l : ℕ) (O : CellTallies nD τ sig Unit) : Prop := ∀ g u, 0 < O g u → ∃ d x, g = kcell (d, x) ∧ l < lvOf (some x)

theorem Above.zero (l : ℕ) : Above l 0 := fun g u h => absurd h (Nat.lt_irrefl 0)
theorem Above.add {l : ℕ} {O O' : CellTallies nD τ sig Unit} (h : Above l O) (h' : Above l O') : Above l (O + O') := fun g u hg => by
  rw [Pi.add_apply, Finsupp.add_apply] at hg
  rcases Nat.add_pos_iff_pos_or_pos.mp hg with hg | hg
  · exact h g u hg
  · exact h' g u hg
theorem above_rem {l : ℕ} (x : Fin 15 → Dev nD × CI) (k : ℕ) (hx : ∀ j, l < lvOf (some (x j).2)) (n : ℕ) :
    Above l (rem (fun j => tallyAt (kcell (x j)) () k) n) := fun g u hg => by
  obtain ⟨j, hj⟩ := rem_pos hg
  exact ⟨(x j).1, (x j).2, tally_pos hj, hx j⟩

theorem above_bar (c : Dev nD) (n : ℕ) : Above 0 (rem (owesBar c) n) :=
  above_rem (fun j => (fwd c j, none)) 1 (fun _ => Nat.one_pos) n
theorem above_1 (c : Dev nD) (n : ℕ) : Above 1 (rem (owesDma 1 c) n) :=
  above_rem (fun j => (fwd c j, some (1, j))) N (fun _ => Nat.lt_succ_self 1) n
theorem above_3 (c : Dev nD) (n : ℕ) : Above 2 (rem (owesDma 3 c) n) :=
  above_rem (fun j => (fwd c j, some (3, j))) N (fun _ => Nat.lt_succ_self 2) n
theorem Above.mono {l l' : ℕ} (h : l' ≤ l) {O : CellTallies nD τ sig Unit} (hO : Above l O) : Above l' O := fun g u hg => by
  obtain ⟨d, x, hx, hl⟩ := hO g u hg
  exact ⟨d, x, hx, Nat.lt_of_le_of_lt h hl⟩
theorem above_O₀ (c : Dev nD) : Above 0 (O₀ c) :=
  (above_bar c 0).add (((above_1 c 0).mono (by decide)).add ((above_3 c 0).mono (by decide)))

omit [FloatOps F] in
/-- A device may wait on a semaphore below everything it owes. -/
theorem mayWait (c : Dev nD) (sm : SemLoc sig) (O : CellTallies nD τ sig Unit) (l : ℕ) (hl : lv ((c : Thread nD τ), sm) () ≤ l)
    (hO : Above l O) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by obtain ⟨d, x, rfl, -⟩ := hO g u hg; rw [L_tc]; exact Finset.mem_singleton_self _)
    (fun p hp => by rw [Finset.mem_singleton.mp hp]; exact hl)
    (fun g u hg => by obtain ⟨d, x, rfl, h⟩ := hO g u hg; rw [lv_at]; exact h)

end Cert.AllSum

end
-- ==== Proof.Steps.lean ====
/-
# The steps and the loop rule

Each kind of step is proved once, for every device and every step number; a loop of fifteen steps follows from its
step by `wp_loop`.
-/
module

public import proofs.«01_k».proof.Proof.Plan

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `e` to `Q`. -/
abbrev WP {α : Type} (c : Dev nD) (e : Line F α) (Q : α → sProp 𝕄) : sProp 𝕄 :=
  wp frame (wpE (defs₀ (F := F)) 𝒱₀ (c : Thread nD τ) none) Set.univ e Q

omit [FloatOps F] in
/-- A family over `n + 1` numbers is its first member and the rest. -/
theorem sep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl

/-- The loop rule. Step `j` uses up `Pre j`, leaves `Post j`, and takes the carried state from `S j` to `S (j + 1)` and the
    carried value from `g j` to `g (j + 1)`. -/
theorem wp_loop {A α : Type} (c : Dev nD) {k : A → Line F α} {Q : α → sProp 𝕄} (n : ℕ) :
    ∀ (f : Fin n → A → Line F A) (g : ℕ → A) (Pre Post : Fin n → sProp 𝕄) (S : ℕ → sProp 𝕄)
      (step : ∀ (j : Fin n) (k' : A → Line F α), iprop(Pre j ∗ S j.val)
        ⊢ iprop(((Post j ∗ S (j.val + 1)) -∗ WP c (k' (g (j.val + 1))) Q) -∗ WP c ((f j (g j.val)).bind k') Q)),
      iprop(bigSep Finset.univ Pre ∗ S 0)
        ⊢ iprop(((bigSep Finset.univ Post ∗ S n) -∗ WP c (k (g n)) Q) -∗ WP c (loop n f (g 0) k) Q) := by
  induction n with
  | zero =>
    intro f g Pre Post S step
    show _ ⊢ iprop(_ -∗ WP c (k (g 0)) Q)
    iintro ⟨-, HS⟩ Hk
    iapply Hk
    isplitr
    · rw [Finset.univ_eq_empty, bigSep_empty]; iempintro
    · iexact HS
  | succ n ih =>
    intro f g Pre Post S step
    show _ ⊢ iprop(_ -∗ WP c ((f 0 (g 0)).bind fun b => loop n (fun i => f i.succ) b k) Q)
    rw [sep_succ, sep_succ]
    iintro ⟨⟨H0, Hr⟩, HS⟩ Hk
    have step0 : iprop(Pre 0 ∗ S 0) ⊢ iprop(((Post 0 ∗ S (0 + 1)) -∗ WP c (loop n (fun i => f i.succ) (g (0 + 1)) k) Q)
        -∗ WP c ((f 0 (g 0)).bind fun b => loop n (fun i => f i.succ) b k) Q) := step 0 (fun b => loop n (fun i => f i.succ) b k)
    iapply step0 $$ [H0 HS]
    · isplitl [H0]; · iexact H0
      iexact HS
    iintro ⟨H0, HS⟩
    iapply (ih (fun i => f i.succ) (fun i => g (i + 1)) (fun i => Pre i.succ) (fun i => Post i.succ) (fun i => S (i + 1))
      fun j k' => step j.succ k') $$ [Hr HS]
    · isplitl [Hr]; · iexact Hr
      iexact HS
    iintro ⟨Hr, HS⟩
    iapply Hk
    isplitl [H0 Hr]
    · isplitl [H0]; · iexact H0
      iexact Hr
    iexact HS

/-! ## What every step can see -/

/-- Every semaphore's invariant, and that each is in its round. -/
def records (K : Dev nD × CI → ℕ) : sProp 𝕄 :=
  iprop((bigSep Finset.univ fun cx : Dev nD × CI => cellInv ER (plan m ρ) (K cx) (kcell cx))
    ∗ bigSep Finset.univ fun cx : Dev nD × CI => reached ER (kcell cx) 0)

instance records_persistent (K : Dev nD × CI → ℕ) : BI.Persistent (records m ρ K) := by unfold records; infer_instance

theorem inv_at (K : Dev nD × CI → ℕ) (cx : Dev nD × CI) :
    (bigSep Finset.univ fun cx : Dev nD × CI => (cellInv ER (plan m ρ) (K cx) (kcell cx) : sProp 𝕄)) ⊢ cellInv ER (plan m ρ) (K cx) (kcell cx) :=
  bigSep_elim (Finset.mem_univ cx)
omit [FloatOps F] in
theorem reached_at (cx : Dev nD × CI) :
    (bigSep Finset.univ fun cx : Dev nD × CI => (reached ER (kcell cx) 0 : sProp 𝕄)) ⊢ reached ER (kcell cx) 0 :=
  bigSep_elim (Finset.mem_univ cx)

theorem inv_of (K : Dev nD × CI → ℕ) (cx : Dev nD × CI) : records m ρ K ⊢ cellInv ER (plan m ρ) (K cx) (kcell cx) := by
  unfold records
  iintro ⟨#HI, -⟩
  iapply (inv_at m ρ K cx); iexact HI
theorem reached_of (K : Dev nD × CI → ℕ) (cx : Dev nD × CI) : records m ρ K ⊢ reached ER (kcell cx) 0 := by
  unfold records
  iintro ⟨-, #HI⟩
  iapply (reached_at (F := F) cx); iexact HI

/-- The records, the levels, and what device `c` still owes. -/
def world (K : Dev nD × CI → ℕ) (c : Dev nD) (O : CellTallies nD τ sig Unit) : sProp 𝕄 :=
  iprop(records m ρ K ∗ levAts L lv ∗ ∃ W, owes (c : Thread nD τ) O W)

variable (K : Dev nD × CI → ℕ)

theorem mem_bar (c : Dev nD) (j : Fin 15) : j ∈ (plan (F := F) m ρ).duties (barCell c) 0 := by rw [duties_at]; exact Finset.mem_univ _
theorem mem_dma (k : Fin 4) (c : Dev nD) (j : Fin 15) : (0 : Fin 15) ∈ (plan (F := F) m ρ).duties (dmaCell k c j) 0 := by
  rw [duties_at]; exact Finset.mem_singleton_self _
theorem pay3_eq (c : Dev nD) (j : Fin 15) :
    oPts (fwd c j) c fullShare (ofin m ρ) = (plan (F := F) m ρ).payload (dmaCell 3 (fwd c j) j) 0 0 := by
  rw [payload_at]; show _ = oPts (fwd c j) (bwd (fwd c j) j) fullShare (ofin m ρ); rw [bwd_fwd]
theorem pay_bar (c : Dev nD) (j : Fin 15) :
    (plan (F := F) m ρ).payload (barCell (fwd c j)) 0 j = iprop((∃ f, slotPts c j.rev f) ∗ ∃ f, oPts c (fwd c j) fullShare f) := by
  rw [payload_at]; show barPay (fwd c j) j = _; unfold barPay; rw [bwd_fwd]
/-- A phase 1 transfer makes the payload at its destination; -/
theorem pay1 (c : Dev nD) (j : Fin 15) (fd : Buf (Elt F) ((fwd c j : Thread nD τ).loc cc0_scratch2)) :
    ((slot j).view.loc (fwd c j : Thread nD τ) ↦[(slot j).view.set]{fullShare}
        ((slot j).view.write (Elt F) fd ((chunkAt pM (fwd c j)).view.read (Elt F) (part m ρ c)) Finset.univ) : sProp 𝕄)
      ⊢ (plan (F := F) m ρ).payload (dmaCell 1 (fwd c j) j) 0 0 :=
  Entails.of_eq ((pointsTo_congr (landed1 m ρ c j fd)).trans (payload_at m ρ (fwd c j) (some (1, j)) 0).symm)
/-- so does a phase 2 transfer. -/
theorem pay3 (c : Dev nD) (j : Fin 15) (fd : Buf (Elt F) ((fwd c j : Thread nD τ).loc cc0_stg3_0)) :
    ((chunkAt oM c).view.loc (fwd c j : Thread nD τ) ↦[(chunkAt oM c).view.set]{fullShare}
        ((chunkAt oM c).view.write (Elt F) fd ((chunkAt oM c).view.read (Elt F) (ofin m ρ)) Finset.univ) : sProp 𝕄)
      ⊢ (plan (F := F) m ρ).payload (dmaCell 3 (fwd c j) j) 0 0 :=
  Entails.of_eq ((pointsTo_congr (landed2 c fd (ofin m ρ))).trans (pay3_eq m ρ c j))

/-! ## Signals -/

/-- What a signal to `fwd c j` takes: the duty, `c`'s slot that device will write, and its chunk of `c`'s result. -/
def sigPre (c : Dev nD) (j : Fin 15) : sProp 𝕄 :=
  iprop(dutyTok ER (barCell (fwd c j)) 0 j ∗ (∃ f, slotPts c j.rev f) ∗ ∃ f, oPts c (fwd c j) fullShare f)

theorem wp_sig (c n : Dev nD) (j : Fin 15) (hn : n = fwd c j) (O : CellTallies nD τ sig Unit) {O₀ : CellTallies nD τ sig Unit}
    (hO : O₀ = O + owesBar c j) {α : Type} {Q : α → sProp 𝕄} {k : PUnit → Line F α} :
    iprop(sigPre c j ∗ world m ρ K c O₀)
      ⊢ iprop(((emp ∗ world m ρ K c O) -∗ WP c (k ⟨⟩) Q) -∗ WP c (.op (.semSignal (n : Thread nD τ) barS (1#32 : BitVec 32).toInt) k) Q) := by
  subst hn
  unfold sigPre world
  iintro ⟨⟨Htok, Hs, Hc⟩, #HR, #Hlev, ⟨%W, HO⟩⟩ Hk
  iapply (Rounds.wp_signal 𝒱₀ ER (plan m ρ) (c : Thread nD τ) none (dst := (fwd c j : Thread nD τ)) (κ := K (fwd c j, none))
      (d := j) (mem_bar m ρ (fwd c j) j) ((amount_at m ρ (fwd c j) none j).trans (by decide)) () O hO)
    $$ [HO Htok Hs Hc]
  · isplitr; · iapply (inv_of m ρ K (fwd c j, none)); iexact HR
    isplitl [HO]; · iexact HO
    isplitl [Htok]; · iexact Htok
    isplitl [Hs Hc]
    · iapply (Entails.of_eq (pay_bar m ρ c j).symm)
      isplitl [Hs]; · iexact Hs
      iexact Hc
    · iapply (reached_of m ρ K (fwd c j, none)); iexact HR
  iintro HO
  iapply Hk
  isplitr; · iempintro
  isplitr; · iexact HR
  isplitr; · iexact Hlev
  iexists W; iexact HO

/-! ## Transfers -/

/-- What the phase 1 transfer to `fwd c j` takes; -/
def send1Pre (c : Dev nD) (j : Fin 15) : sProp 𝕄 :=
  iprop(pPts c (fwd c j) (part m ρ c) ∗ (∃ f, slotPts (fwd c j) j f) ∗ dutyTok ER (dmaCell 0 c j) 0 0 ∗ dutyTok ER (dmaCell 1 (fwd c j) j) 0 0)

theorem wp_send1 (c n : Dev nD) (j : Fin 15) (hn : n = fwd c j) (src : Memref sig .tc .vmem S48x768 .f32) (hs : src = chunkAt pM (fwd c j))
    {hsc : (slot j : Memref sig (Dev.tc n : Thread nD τ).2.kind .vmem S48x768 .f32).view.ref.isScScratch = false}
    {hsrc : src.view.WordExact} {hdst : (slot j).view.WordExact}
    {hsem : DmaTarget.Typed .vmem (.dma (semAt cc0_scratch4 j)) (.remote (Dev.tc n : Thread nD τ) (slot j) (.dma (semAt cc0_scratch3 j)) hsc)}
    (O : CellTallies nD τ sig Unit) {O₀ : CellTallies nD τ sig Unit} (hO : O₀ = O + owesDma 1 c j) {α : Type} {Q : α → sProp 𝕄} {k : PUnit → Line F α} :
    iprop(send1Pre m ρ c j ∗ world m ρ K c O₀)
      ⊢ iprop(((cred (tallyAt (dmaCell 0 c j) () N) ∗ world m ρ K c O) -∗ WP c (k ⟨⟩) Q)
          -∗ WP c (.op (.enqueueDma src (.remote (Dev.tc n : Thread nD τ) (slot j) (.dma (semAt cc0_scratch3 j)) hsc) (.dma (semAt cc0_scratch4 j)) hsrc hdst hsem) k) Q) := by
  subst hn hs
  unfold send1Pre world pPts slotPts
  iintro ⟨⟨Hp, ⟨%fd, Hs⟩, Ht0, Ht1⟩, #HR, #Hlev, ⟨%W, HO⟩⟩ Hk
  iapply (Rounds.wp_send_pointsTo 𝒱₀ ER (plan m ρ) (c : Thread nD τ) none (c' := (fwd c j : Thread nD τ)) (src := chunkAt pM (fwd c j)) (dst := slot j) (κ₁ := K (c, some (0, j))) (κ₂ := K (fwd c j, some (1, j)))
      (r₁ := 0) (r₂ := 0) (d₁ := 0) (d₂ := 0) (fd := fd)
      (mem_dma m ρ 0 c j) (mem_dma m ρ 1 (fwd c j) j)
      () () N (slot_credit j) (amount_at m ρ c (some (0, j)) 0) (amount_at m ρ (fwd c j) (some (1, j)) 0) O hO (W := W)
      (Entails.of_eq (payload_at m ρ c (some (0, j)) 0).symm)
      (pay1 m ρ c j fd))
    $$ [Hp Hs Ht0 Ht1 HO]
  · isplitr; · iapply (inv_of m ρ K (c, some (0, j))); iexact HR
    isplitr; · iapply (inv_of m ρ K (fwd c j, some (1, j))); iexact HR
    isplitl [Hp]; · iexact Hp
    isplitl [Hs]; · iexact Hs
    isplitl [HO]; · iexact HO
    isplitl [Ht0]; · iexact Ht0
    isplitr; · iapply (reached_of m ρ K (c, some (0, j))); iexact HR
    isplitl [Ht1]; · iexact Ht1
    iapply (reached_of m ρ K (fwd c j, some (1, j))); iexact HR
  iintro ⟨Hc, HO⟩
  iapply Hk
  isplitl [Hc]; · iexact Hc
  isplitr; · iexact HR
  isplitr; · iexact Hlev
  iexists W; iexact HO

/-- what the phase 2 transfer takes. -/
def send2Pre (c : Dev nD) (j : Fin 15) : sProp 𝕄 :=
  iprop(oPts c c (lent j) (ofin m ρ) ∗ (∃ f, oPts (fwd c j) c fullShare f) ∗ dutyTok ER (dmaCell 2 c j) 0 0 ∗ dutyTok ER (dmaCell 3 (fwd c j) j) 0 0)

theorem wp_send2 (c n : Dev nD) (j : Fin 15) (hn : n = fwd c j) (src : Memref sig .tc .vmem S48x768 .f32) (hs : src = chunkAt oM c)
    {hsc : (src : Memref sig (Dev.tc n : Thread nD τ).2.kind .vmem S48x768 .f32).view.ref.isScScratch = false}
    {hsrc : src.view.WordExact} {hdst : src.view.WordExact}
    {hsem : DmaTarget.Typed .vmem (.dma (semAt cc0_scratch6 j)) (.remote (Dev.tc n : Thread nD τ) src (.dma (semAt cc0_scratch5 j)) hsc)}
    (O : CellTallies nD τ sig Unit) {O₀ : CellTallies nD τ sig Unit} (hO : O₀ = O + owesDma 3 c j) {α : Type} {Q : α → sProp 𝕄} {k : PUnit → Line F α} :
    iprop(send2Pre m ρ c j ∗ world m ρ K c O₀)
      ⊢ iprop(((cred (tallyAt (dmaCell 2 c j) () N) ∗ world m ρ K c O) -∗ WP c (k ⟨⟩) Q)
          -∗ WP c (.op (.enqueueDma src (.remote (Dev.tc n : Thread nD τ) src (.dma (semAt cc0_scratch5 j)) hsc) (.dma (semAt cc0_scratch6 j)) hsrc hdst hsem) k) Q) := by
  subst hn hs
  unfold send2Pre world oPts
  iintro ⟨⟨Hp, ⟨%fd, Hs⟩, Ht0, Ht1⟩, #HR, #Hlev, ⟨%W, HO⟩⟩ Hk
  iapply (Rounds.wp_send_pointsTo 𝒱₀ ER (plan m ρ) (c : Thread nD τ) none (c' := (fwd c j : Thread nD τ)) (src := chunkAt oM c) (dst := chunkAt oM c) (κ₁ := K (c, some (2, j))) (κ₂ := K (fwd c j, some (3, j)))
      (r₁ := 0) (r₂ := 0) (d₁ := 0) (d₂ := 0) (fd := fd)
      (mem_dma m ρ 2 c j) (mem_dma m ρ 3 (fwd c j) j)
      () () N (oCh_credit c) (amount_at m ρ c (some (2, j)) 0) (amount_at m ρ (fwd c j) (some (3, j)) 0) O hO (W := W)
      (Entails.of_eq (payload_at m ρ c (some (2, j)) 0).symm)
      (pay3 m ρ c j fd))
    $$ [Hp Hs Ht0 Ht1 HO]
  · isplitr; · iapply (inv_of m ρ K (c, some (2, j))); iexact HR
    isplitr; · iapply (inv_of m ρ K (fwd c j, some (3, j))); iexact HR
    isplitl [Hp]; · iexact Hp
    isplitl [Hs]; · iexact Hs
    isplitl [HO]; · iexact HO
    isplitl [Ht0]; · iexact Ht0
    isplitr; · iapply (reached_of m ρ K (c, some (2, j))); iexact HR
    isplitl [Ht1]; · iexact Ht1
    iapply (reached_of m ρ K (fwd c j, some (3, j))); iexact HR
  iintro ⟨Hc, HO⟩
  iapply Hk
  isplitl [Hc]; · iexact Hc
  isplitr; · iexact HR
  isplitr; · iexact Hlev
  iexists W; iexact HO

/-! ## Waits -/

/-- What the wait on semaphore `j` of array `k` takes: its credit and the device's position there; -/
def waitPre (k : Fin 4) (c : Dev nD) (j : Fin 15) : sProp 𝕄 :=
  iprop(cred (tallyAt (dmaCell k c j) () N) ∗ atPos ER (dmaCell k c j) 0 ∅ 0)
/-- what it leaves: what the semaphore hands over, and the semaphore closed at zero. -/
def waitPost (k : Fin 4) (c : Dev nD) (j : Fin 15) : sProp 𝕄 :=
  iprop(xferPay m ρ c k j ∗ semVal (dmaCell k c j) 0)

theorem wp_wait (k : Fin 4) (c : Dev nD) (j : Fin 15) (O : CellTallies nD τ sig Unit) (hO : Above (lvOf (some (some (k, j)))) O)
    {src dst : Memref sig .tc .vmem S48x768 .f32} {hsrc : src.view.WordExact} {hdst : dst.view.WordExact} (hN : dst.view.dmaCredit = N)
    {α : Type} {Q : α → sProp 𝕄} {k' : PUnit → Line F α} :
    iprop(waitPre k c j ∗ world m ρ K c O)
      ⊢ iprop(((waitPost m ρ k c j ∗ world m ρ K c O) -∗ WP c (k' ⟨⟩) Q)
          -∗ WP c (.op (.waitDma2 (semAt (arr k) j) src dst hsrc hdst) k') Q) := by
  unfold waitPre waitPost world
  iintro ⟨⟨Hc, Hat⟩, #HR, #Hlev, ⟨%W, HO⟩⟩ Hk
  iapply (Rounds.wp_wait_rest_token 𝒱₀ ER (plan m ρ) (c : Thread nD τ) none (κ := K (c, some (k, j))) (k' := N)
      (fun Kp => (wpE_waitDma2_eq 𝒱₀ (c : Thread nD τ) none Set.univ Kp).trans (by rw [hN])) (Set.mem_univ _) () (O := O) (W := W) (R := 0) (m := 0) (T := ∅)
      (by rw [Nat.zero_add]; exact (expect_dma m ρ k c j).symm)) $$ [Hc HO Hat]
  · isplitr; · iapply (inv_of m ρ K (c, some (k, j))); iexact HR
    isplitl [Hc]; · iexact Hc
    isplitl [HO]; · iexact HO
    isplitr
    · iapply (mayWait c (csem (some (k, j))) O _ (lv_at c (some (k, j)) ()).le hO); iexact Hlev
    iexact Hat
  iintro ⟨HO, Hat, -, Hpay⟩
  ihave Hp := (Entails.of_eq (rest_dma m ρ k c j)) $$ Hpay
  imod (Rounds.cell_close ER (plan m ρ) (Set.mem_univ (K (c, some (k, j)))) (fun h => h) (R := 0 + 1) (duties_later m ρ (dmaCell k c j))) $$ [Hat] with Hz
  · isplitr; · iapply (inv_of m ρ K (c, some (k, j))); iexact HR
    iexact Hat
  iapply Hk
  isplitl [Hp Hz]
  · isplitl [Hp]; · iexact Hp
    iexact Hz
  isplitr; · iexact HR
  isplitr; · iexact Hlev
  iexists _; iexact HO

/-- The wait for all fifteen others at the barrier: every slot and chunk `c` will write comes with it. -/
theorem wp_barrier (c : Dev nD) (O : CellTallies nD τ sig Unit) (hO : Above 1 O) {α : Type} {Q : α → sProp 𝕄} {k : PUnit → Line F α} :
    iprop((cred (tallyAt (barCell c) () 15) ∗ atPos ER (barCell c) 0 ∅ 0) ∗ world m ρ K c O)
      ⊢ iprop((((bigSep Finset.univ fun j : Fin 15 => iprop((∃ f, slotPts (fwd c j) j f) ∗ ∃ f, oPts (fwd c j) c fullShare f))
              ∗ semVal (barCell c) 0 ∗ world m ρ K c O) -∗ WP c (k ⟨⟩) Q)
          -∗ WP c (.op (.semWait barS (15#32 : BitVec 32).toInt) k) Q) := by
  unfold world
  iintro ⟨⟨Hc, Hat⟩, #HR, #Hlev, ⟨%W, HO⟩⟩ Hk
  iapply (Rounds.wp_wait_rest_token 𝒱₀ ER (plan m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_of m ρ K (c, none)); iexact HR
    isplitl [Hc]; · iexact Hc
    isplitl [HO]; · iexact HO
    isplitr
    · iapply (mayWait c (csem none) O _ (lv_at c none ()).le hO); iexact Hlev
    iexact Hat
  iintro ⟨HO, Hat, -, Hpay⟩
  ihave Hp := (Entails.of_eq (rest_bar m ρ c)) $$ Hpay
  imod (Rounds.cell_close ER (plan m ρ) (Set.mem_univ (K (c, none))) (fun h => h) (R := 0 + 1) (duties_later m ρ (barCell c))) $$ [Hat] with Hz
  · isplitr; · iapply (inv_of m ρ K (c, none)); iexact HR
    iexact Hat
  iapply Hk
  isplitl [Hp]; · iexact Hp
  isplitl [Hz]; · iexact Hz
  isplitr; · iexact HR
  isplitr; · iexact Hlev
  iexists _; iexact HO

end Cert.AllSum

end
-- ==== Proof.Phases.lean ====
/-
# The phases of a device's body

Each stretch of the body, from what it takes to what it leaves: the signals, the barrier, the products, the first
phase (chunks sent, received and added up), the second (sums sent and received), and the waits on what was sent.
-/
module

public import proofs.«01_k».proof.Proof.Steps

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

omit [FloatOps F] in
/-- Fifteen times two things are fifteen of each. -/
theorem pair_sep (Φ Ψ : Fin 15 → sProp 𝕄) :
    (bigSep Finset.univ fun j : Fin 15 => iprop(Φ j ∗ Ψ j)) = iprop(bigSep Finset.univ Φ ∗ bigSep Finset.univ Ψ) := bigSep_sep' _ _ _

/-! ## Loads and the store of a device's own row -/

theorem wp_load_p (c : Dev nD) {off : Fin 3 → ℕ} {inb : ∀ a, off a + S1x48x768.size a ≤ S16x48x768.size a} (ho : off = ![c.val, 0, 0])
    {hl : pM.view.LoadsAt (Rect.unit (s := S16x48x768) off S1x48x768.size inb).toLoadRect} (f : Buf (Elt F) ((c : Thread nD τ).loc cc0_scratch0))
    {α : Type} {Q : α → sProp 𝕄} {k : Vec F S1x48x768 .f32 → Line F α} :
    pPts c c f ⊢ iprop((pPts c c f -∗ WP c (k (row16 f c)) Q)
      -∗ WP c (.op (.load pM (Rect.unit (s := S16x48x768) off S1x48x768.size inb).toLoadRect hl) k) Q) := by
  subst ho
  rw [← read_p c f, pPts_eq]
  exact wp_load_rect 𝒱₀ (c : Thread nD τ) none Set.univ (m := pM) (r := rowR c) (by rw [View.set_slice_whole cc0_scratch0 (rowR c)])

theorem wp_load_r (c : Dev nD) (j : Fin 15) {hl : rM.view.LoadsAt (slotR j).toLoadRect} (f : Buf (Elt F) ((c : Thread nD τ).loc cc0_scratch2))
    {α : Type} {Q : α → sProp 𝕄} {k : Vec F S1x48x768 .f32 → Line F α} :
    slotPts c j f ⊢ iprop((slotPts c j f -∗ WP c (k (row15 f j)) Q) -∗ WP c (.op (.load rM (slotR j).toLoadRect hl) k) Q) := by
  rw [← read_r j f, slotPts_eq]
  exact wp_load_rect 𝒱₀ (c : Thread nD τ) none Set.univ (m := rM) (r := slotR j) (by rw [View.set_slice_whole cc0_scratch2 (slotR j)])

theorem wp_load_o (c : Dev nD) {off : Fin 3 → ℕ} {inb : ∀ a, off a + S1x48x768.size a ≤ S16x48x768.size a} (ho : off = ![c.val, 0, 0])
    {hl : oM.view.LoadsAt (Rect.unit (s := S16x48x768) off S1x48x768.size inb).toLoadRect} (f : Buf (Elt F) ((c : Thread nD τ).loc cc0_stg3_0))
    {α : Type} {Q : α → sProp 𝕄} {k : Vec F S1x48x768 .f32 → Line F α} {e : Line F α} (hk : ∀ v, k v = e) :
    oPts c c fullShare f ⊢ iprop((oPts c c fullShare f -∗ WP c e Q)
      -∗ WP c (.op (.load oM (Rect.unit (s := S16x48x768) off S1x48x768.size inb).toLoadRect hl) k) Q) := by
  subst ho
  rw [← hk ((oM.access (rowR c)).read (Elt F) f), oPts_eq]
  exact wp_load_rect 𝒱₀ (c : Thread nD τ) none Set.univ (m := oM) (r := rowR c) (by rw [View.set_slice_whole cc0_stg3_0 (rowR c)])

theorem wp_store_o (c : Dev nD) {off : Fin 3 → ℕ} {inb : ∀ a, off a + S1x48x768.size a ≤ S16x48x768.size a} (ho : off = ![c.val, 0, 0])
    {hx : (oM.access (Rect.unit (s := S16x48x768) off S1x48x768.size inb)).Stores Finset.univ} {hm}
    (f : Buf (Elt F) ((c : Thread nD τ).loc cc0_stg3_0)) {α : Type} {Q : α → sProp 𝕄} {k : PUnit → Line F α} :
    oPts c c fullShare f ⊢ iprop((oPts c c fullShare (ofin m ρ) -∗ WP c (k ⟨⟩) Q)
      -∗ WP c (.op (.store oM (Rect.unit (s := S16x48x768) off S1x48x768.size inb) (sumAt m ρ c) Finset.univ hx hm) k) Q) := by
  subst ho
  have hs : (((c : Thread nD τ).loc cc0_stg3_0) ↦[(rowR c).set]{fullShare} ((oM.access (rowR c)).write (Elt F) f (sumAt m ρ c) Finset.univ) : sProp 𝕄)
      = (((c : Thread nD τ).loc cc0_stg3_0) ↦[(rowR c).set]{fullShare} ofin m ρ) := pointsTo_congr (stored m ρ c f)
  rw [oPts_eq, oPts_eq, ← hs]
  exact wp_store 𝒱₀ (c : Thread nD τ) none Set.univ (m := oM) (r := rowR c) (Mk := Finset.univ)
    (show (oM.access (rowR c)).set ⊆ _ by rw [View.set_slice_whole cc0_stg3_0 (rowR c)])

/-! ## The loops -/

variable {α : Type} (Q : α → sProp (MT nD τ sig Unit (Elt F) ℕ UU ℕ))

/-- The fifteen signals. -/
theorem sig_loop (c : Dev nD) (X : CellTallies nD τ sig Unit) {k : Line F α} :
    iprop(bigSep Finset.univ (sigPre (F := F) c) ∗ world m ρ K c (rem (owesBar c) 0 + X))
      ⊢ iprop((world m ρ K c X -∗ WP c k Q) -∗ WP c (each 15 (sigStep c) k) Q) := by
  have h := wp_loop c (k := fun _ => k) (Q := Q) 15 (fun j _ => sigStep (F := F) c j) (fun _ => ⟨⟩) (sigPre c) (fun _ => iprop(emp))
    (fun n => world m ρ K c (rem (owesBar c) n + X)) (fun j k' => by
      simp only [sigStep, semSignalWord, Prog.bind_op, Prog.bind_ret]
      exact wp_sig m ρ K c (tgt c j) j (tgt_eq c j) _ (by rw [rem_step, add_right_comm]))
  rw [rem_end, zero_add] at h
  iintro H Hk
  iapply h $$ H
  iintro ⟨-, HW⟩
  iapply Hk; iexact HW

/-- The fifteen phase 1 transfers. -/
theorem send1_loop (c : Dev nD) (X : CellTallies nD τ sig Unit) {k : Line F α} :
    iprop(bigSep Finset.univ (send1Pre m ρ c) ∗ world m ρ K c (rem (owesDma 1 c) 0 + X))
      ⊢ iprop((((bigSep Finset.univ fun j => cred (tallyAt (dmaCell 0 c j) () N)) ∗ world m ρ K c X) -∗ WP c k Q) -∗ WP c (each 15 (send1Step c) k) Q) := by
  have h := wp_loop c (k := fun _ => k) (Q := Q) 15 (fun j _ => send1Step (F := F) c j) (fun _ => ⟨⟩) (send1Pre m ρ c)
    (fun j => cred (tallyAt (dmaCell 0 c j) () N))
    (fun n => world m ρ K c (rem (owesDma 1 c) n + X)) (fun j k' => by
      simp only [send1Step, Prog.lift, Prog.bind_op, Prog.bind_ret]
      exact wp_send1 m ρ K c (tgt c j) j (tgt_eq c j) (pFor c j) (pFor_eq c j) _ (by rw [rem_step, add_right_comm]))
  rw [rem_end, zero_add] at h
  exact h

/-- The fifteen phase 1 receptions, each added to the running sum. -/
theorem recv1_loop (c : Dev nD) (O : CellTallies nD τ sig Unit) (hO : Above 2 O) {k : FVec F S48x768 .f32 → Line F α} :
    iprop(bigSep Finset.univ (waitPre 1 c) ∗ world m ρ K c O)
      ⊢ iprop(((bigSep Finset.univ (waitPost m ρ 1 c) ∗ world m ρ K c O) -∗ WP c (k (acc m ρ c 15)) Q)
          -∗ WP c (loop 15 (recv1Step c) (acc m ρ c 0) k) Q) :=
  wp_loop c 15 (recv1Step c) (acc m ρ c) (waitPre 1 c) (waitPost m ρ 1 c) (fun _ => world m ρ K c O) (fun j k' => by
    simp only [recv1Step, Prog.lift, Prog.bind_op, Prog.bind_ret, Prog.pure_eq_ret, bind]
    iintro H Hk
    iapply (wp_wait m ρ K 1 c j O hO (slot_credit j)) $$ H
    unfold waitPost
    rw [show xferPay m ρ c 1 j = slotPts c j (rfin m ρ c) from rfl]
    iintro ⟨⟨Hs, Hz⟩, HW⟩
    iapply (wp_load_r c j (rfin m ρ c)) $$ [Hs]
    · iexact Hs
    iintro Hs
    rw [acc_succ]
    iapply Hk
    isplitl [Hs Hz]
    · isplitl [Hs]; · iexact Hs
      iexact Hz
    iexact HW)

/-- The fifteen phase 2 transfers. -/
theorem send2_loop (c : Dev nD) {k : Line F α} :
    iprop(bigSep Finset.univ (send2Pre m ρ c) ∗ world m ρ K c (rem (owesDma 3 c) 0))
      ⊢ iprop((((bigSep Finset.univ fun j => cred (tallyAt (dmaCell 2 c j) () N)) ∗ world m ρ K c 0) -∗ WP c k Q) -∗ WP c (each 15 (send2Step c) k) Q) := by
  have h := wp_loop c (k := fun _ => k) (Q := Q) 15 (fun j _ => send2Step (F := F) c j) (fun _ => ⟨⟩) (send2Pre m ρ c)
    (fun j => cred (tallyAt (dmaCell 2 c j) () N))
    (fun n => world m ρ K c (rem (owesDma 3 c) n)) (fun j k' => by
      simp only [send2Step, Prog.lift, Prog.bind_op, Prog.bind_ret]
      exact wp_send2 m ρ K c (tgt c j) j (tgt_eq c j) (oOwn c) (oOwn_eq c) _ (rem_step _ j))
  rw [rem_end] at h
  exact h

theorem oOwn_credit (c : Dev nD) : (oOwn c).view.dmaCredit = N := by rw [oOwn_eq]; exact oCh_credit c
theorem pFor_credit (c : Dev nD) (j : Fin 15) : (pFor c j).view.dmaCredit = N := by rw [pFor_eq]; exact pCh_credit _

/-- The fifteen phase 2 receptions. -/
theorem recv2_loop (c : Dev nD) {k : Line F α} :
    iprop(bigSep Finset.univ (waitPre 3 c) ∗ world m ρ K c 0)
      ⊢ iprop(((bigSep Finset.univ (waitPost m ρ 3 c) ∗ world m ρ K c 0) -∗ WP c k Q) -∗ WP c (each 15 (recv2Step c) k) Q) :=
  wp_loop c (k := fun _ => k) 15 (fun j _ => recv2Step (F := F) c j) (fun _ => ⟨⟩) (waitPre 3 c) (waitPost m ρ 3 c) (fun _ => world m ρ K c 0) (fun j k' => by
    simp only [recv2Step, Prog.lift, Prog.bind_op, Prog.bind_ret]
    exact wp_wait m ρ K 3 c j 0 (Above.zero _) (oOwn_credit c))

/-- The waits on what was sent, in both phases. -/
theorem sent_loop (c : Dev nD) {k : Line F α} :
    iprop((bigSep Finset.univ fun j : Fin 15 => iprop(waitPre 0 c j ∗ waitPre 2 c j)) ∗ world m ρ K c 0)
      ⊢ iprop((((bigSep Finset.univ fun j : Fin 15 => iprop(waitPost m ρ 0 c j ∗ waitPost m ρ 2 c j)) ∗ world m ρ K c 0) -∗ WP c k Q)
          -∗ WP c (each 15 (sentStep c) k) Q) :=
  wp_loop c (k := fun _ => k) 15 (fun j _ => sentStep (F := F) c j) (fun _ => ⟨⟩) (fun j => iprop(waitPre 0 c j ∗ waitPre 2 c j))
    (fun j => iprop(waitPost m ρ 0 c j ∗ waitPost m ρ 2 c j)) (fun _ => world m ρ K c 0) (fun j k' => by
      simp only [sentStep, Prog.lift, Prog.bind_op, Prog.bind_ret, bind]
      iintro ⟨⟨H0, H2⟩, HW⟩ Hk
      iapply (wp_wait m ρ K 0 c j 0 (Above.zero _) (pFor_credit c j)) $$ [H0 HW]
      · isplitl [H0]; · iexact H0
        iexact HW
      iintro ⟨H0, HW⟩
      iapply (wp_wait m ρ K 2 c j 0 (Above.zero _) (oOwn_credit c)) $$ [H2 HW]
      · isplitl [H2]; · iexact H2
        iexact HW
      iintro ⟨H2, HW⟩
      iapply Hk
      isplitl [H0 H2]
      · isplitl [H0]; · iexact H0
        iexact H2
      iexact HW)

end Cert.AllSum

end
-- ==== Proof.Body.lean ====
/-
# A device's body, whole

From what a device holds when its body starts to what it holds when it ends: the result buffer at `ofin`, every other
buffer back, every semaphore closed at zero.
-/
module

public import proofs.«01_k».proof.Proof.Phases

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The products -/

theorem hz2 : (![0, 0] : Fin 2 → Nat) = fun _ => 0 := funext fun a => by fin_cases a <;> rfl
theorem hz3 : (![0, 0, 0] : Fin 3 → Nat) = fun _ => 0 := funext fun a => by fin_cases a <;> rfl

/-- The products in sequence with what follows them. -/
theorem products_bind {α : Type} (k : PUnit → Line F α) : products.bind k =
    .op (.load xM (Rect.unit (s := S768x768) ![0, 0] S768x768.size inb_S768x768_S768x768_0_0).toLoadRect (View.loadsAt_vmem h_S768x768)) fun vx =>
    .op (.load w1M (Rect.unit (s := S768x1536) ![0, 0] S768x1536.size inb_S768x1536_S768x1536_0_0).toLoadRect (View.loadsAt_vmem h_S768x1536)) fun vw =>
    .op (.load hM (Rect.unit (s := S768x1536) ![0, 0] S768x1536.size inb_S768x1536_S768x1536_0_0).toLoadRect (View.loadsAt_vmem h_S768x1536)) fun _ =>
    .op (.store hM (Rect.unit (s := S768x1536) ![0, 0] S768x1536.size inb_S768x1536_S768x1536_0_0) (k0_pay1 vx vw) Finset.univ (View.stores_vmem_bits_univ h_S768x1536 rfl) (.inl rfl)) fun _ =>
    .op (.load hM (Rect.unit (s := S768x1536) ![0, 0] S768x1536.size inb_S768x1536_S768x1536_0_0).toLoadRect (View.loadsAt_vmem h_S768x1536)) fun vh =>
    .op (.load w2M (Rect.unit (s := S1536x768) ![0, 0] S1536x768.size inb_S1536x768_S1536x768_0_0).toLoadRect (View.loadsAt_vmem h_S1536x768)) fun vv =>
    .op (.load pM (Rect.unit (s := S16x48x768) ![0, 0, 0] S16x48x768.size inb_S16x48x768_S16x48x768_0_0_0).toLoadRect (View.loadsAt_vmem h_S16x48x768)) fun _ =>
    .op (.store pM (Rect.unit (s := S16x48x768) ![0, 0, 0] S16x48x768.size inb_S16x48x768_S16x48x768_0_0_0) (k0_pay2 vh vv) Finset.univ (View.stores_vmem_bits_univ h_S16x48x768 rfl) (.inl rfl)) k := rfl

/-- What the first store leaves is the hidden layer; -/
theorem fill_h (c : Dev nD) (f : Buf (Elt F) ((c : Thread nD τ).loc cc0_scratch1)) :
    ((hM.access (Rect.unit (s := S768x1536) ![0, 0] S768x1536.size inb_S768x1536_S768x1536_0_0)).write (Elt F) f
      (k0_pay1 (xM.view.readAt (Elt F) (Rect.unit (s := S768x768) ![0, 0] S768x768.size inb_S768x768_S768x768_0_0).toLoadRect (xstg m ρ c))
        (w1M.view.readAt (Elt F) (Rect.unit (s := S768x1536) ![0, 0] S768x1536.size inb_S768x1536_S768x1536_0_0).toLoadRect (w1stg m ρ c))) Finset.univ)
      = hid m ρ c :=
  (Memref.write_access_unit_zero_univ (Elt F) cc0_scratch1 hz2 _ f _).trans
    (congrArg₂ k0_pay1 (Memref.readAt_unit_zero (Elt F) cc0_stg0_0 hz2 _ _) (Memref.readAt_unit_zero (Elt F) cc0_stg1_0 hz2 _ _))

/-- what the second leaves, the partial products. -/
theorem fill_p (c : Dev nD) (f : Buf (Elt F) ((c : Thread nD τ).loc cc0_scratch0)) :
    ((pM.access (Rect.unit (s := S16x48x768) ![0, 0, 0] S16x48x768.size inb_S16x48x768_S16x48x768_0_0_0)).write (Elt F) f
      (k0_pay2 (hM.view.readAt (Elt F) (Rect.unit (s := S768x1536) ![0, 0] S768x1536.size inb_S768x1536_S768x1536_0_0).toLoadRect (hid m ρ c))
        (w2M.view.readAt (Elt F) (Rect.unit (s := S1536x768) ![0, 0] S1536x768.size inb_S1536x768_S1536x768_0_0).toLoadRect (w2stg m ρ c))) Finset.univ)
      = part m ρ c :=
  (Memref.write_access_unit_zero_univ (Elt F) cc0_scratch0 hz3 _ f _).trans
    (congrArg₂ k0_pay2 (Memref.readAt_unit_zero (Elt F) cc0_scratch1 hz2 _ _) (Memref.readAt_unit_zero (Elt F) cc0_stg2_0 hz2 _ _))

/-- What stays in place around the products: the staged operands. -/
def staged (c : Dev nD) : sProp 𝕄 :=
  iprop((((c : Thread nD τ).loc cc0_stg0_0) ↦{fullShare} xstg m ρ c) ∗ (((c : Thread nD τ).loc cc0_stg1_0) ↦{fullShare} w1stg m ρ c)
    ∗ (((c : Thread nD τ).loc cc0_stg2_0) ↦{fullShare} w2stg m ρ c))

/-- The products fill the hidden layer's buffer and the partial products' buffer. -/
theorem wp_products (c : Dev nD) {α : Type} {Q : α → sProp 𝕄} {k : PUnit → Line F α} :
    iprop(staged m ρ c ∗ (∃ f, ((c : Thread nD τ).loc cc0_scratch1) ↦{fullShare} f) ∗ (∃ f, ((c : Thread nD τ).loc cc0_scratch0) ↦{fullShare} f))
      ⊢ iprop(((staged m ρ c ∗ (((c : Thread nD τ).loc cc0_scratch1) ↦{fullShare} hid m ρ c)
              ∗ (((c : Thread nD τ).loc cc0_scratch0) ↦{fullShare} part m ρ c)) -∗ WP c (k ⟨⟩) Q) -∗ WP c (products.bind k) Q) := by
  unfold staged
  rw [products_bind]
  iintro ⟨⟨Hx, Hw1, Hw2⟩, ⟨%fh, Hh⟩, ⟨%fp, Hp⟩⟩ Hk
  iapply (wp_load 𝒱₀ (c : Thread nD τ) none Set.univ (m := xM) (Finset.subset_univ _)) $$ Hx; iintro Hx
  iapply (wp_load 𝒱₀ (c : Thread nD τ) none Set.univ (m := w1M) (Finset.subset_univ _)) $$ Hw1; iintro Hw1
  iapply (wp_load 𝒱₀ (c : Thread nD τ) none Set.univ (m := hM) (Finset.subset_univ _)) $$ Hh; iintro Hh
  iapply (wp_store 𝒱₀ (c : Thread nD τ) none Set.univ (m := hM) (r := Rect.unit ![0, 0] S768x1536.size inb_S768x1536_S768x1536_0_0) (Mk := Finset.univ) (Finset.subset_univ _)) $$ Hh; iintro Hh
  ihave Hh := (Entails.of_eq (congrArg (fun g => (((c : Thread nD τ).loc cc0_scratch1) ↦{fullShare} g : sProp 𝕄)) (fill_h m ρ c fh))) $$ Hh
  iapply (wp_load 𝒱₀ (c : Thread nD τ) none Set.univ (m := hM) (Finset.subset_univ _)) $$ Hh; iintro Hh
  iapply (wp_load 𝒱₀ (c : Thread nD τ) none Set.univ (m := w2M) (Finset.subset_univ _)) $$ Hw2; iintro Hw2
  iapply (wp_load 𝒱₀ (c : Thread nD τ) none Set.univ (m := pM) (Finset.subset_univ _)) $$ Hp; iintro Hp
  iapply (wp_store 𝒱₀ (c : Thread nD τ) none Set.univ (m := pM) (r := Rect.unit ![0, 0, 0] S16x48x768.size inb_S16x48x768_S16x48x768_0_0_0) (Mk := Finset.univ) (Finset.subset_univ _)) $$ Hp; iintro Hp
  ihave Hp := (Entails.of_eq (congrArg (fun g => (((c : Thread nD τ).loc cc0_scratch0) ↦{fullShare} g : sProp 𝕄)) (fill_p m ρ c fp))) $$ Hp
  iapply Hk
  isplitl [Hx Hw1 Hw2]
  · isplitl [Hx]; · iexact Hx
    isplitl [Hw1]; · iexact Hw1
    iexact Hw2
  isplitl [Hh]; · iexact Hh
  iexact Hp

/-! ## What a device starts from -/

/-- The tokens of the duties device `c` pays. -/
def payToks (c : Dev nD) : sProp 𝕄 :=
  iprop((bigSep Finset.univ fun j : Fin 15 => dutyTok ER (barCell (fwd c j)) 0 j)
    ∗ (bigSep Finset.univ fun j : Fin 15 => dutyTok ER (dmaCell 0 c j) 0 0) ∗ (bigSep Finset.univ fun j : Fin 15 => dutyTok ER (dmaCell 1 (fwd c j) j) 0 0)
    ∗ (bigSep Finset.univ fun j : Fin 15 => dutyTok ER (dmaCell 2 c j) 0 0) ∗ (bigSep Finset.univ fun j : Fin 15 => dutyTok ER (dmaCell 3 (fwd c j) j) 0 0))

/-- Its positions at its own semaphores; -/
def posns (c : Dev nD) : sProp 𝕄 :=
  iprop(atPos ER (barCell c) 0 ∅ 0 ∗ bigSep Finset.univ fun kj : Fin 4 × Fin 15 => atPos ER (kcell (c, some kj)) 0 ∅ 0)
/-- the credits of what the others owe it. -/
def credits (c : Dev nD) : sProp 𝕄 :=
  iprop(cred (tallyAt (barCell c) () 15) ∗ (bigSep Finset.univ fun j : Fin 15 => cred (tallyAt (dmaCell 1 c j) () N))
    ∗ bigSep Finset.univ fun j : Fin 15 => cred (tallyAt (dmaCell 3 c j) () N))

/-- The scratch buffers at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- All of a device's semaphores closed at zero. -/
def closed (c : Dev nD) : sProp 𝕄 :=
  iprop(semVal (barCell c) 0 ∗ bigSep Finset.univ fun kj : Fin 4 × Fin 15 => semVal (kcell (c, some kj)) 0)

omit [FloatOps F] in
/-- Over the four arrays. -/
theorem four_sep (Φ : Fin 4 × Fin 15 → sProp 𝕄) :
    bigSep Finset.univ Φ = iprop((bigSep Finset.univ fun j => Φ (0, j)) ∗ (bigSep Finset.univ fun j => Φ (1, j)) ∗ (bigSep Finset.univ fun j => Φ (2, j))
      ∗ bigSep Finset.univ fun j => Φ (3, j)) := by
  rw [bigSep_univ_prod]; exact bigSep_univ_eq_bigSepL [0, 1, 2, 3] (by decide) (by decide) _

omit [FloatOps F] in
/-- What the fifteen signals take, from the receive buffer and the result buffer. -/
theorem sigPre_intro (c : Dev nD) (fr : Buf (Elt F) ((c : Thread nD τ).loc cc0_scratch2)) (fo : Buf (Elt F) ((c : Thread nD τ).loc cc0_stg3_0)) :
    iprop((bigSep Finset.univ fun j : Fin 15 => dutyTok ER (barCell (fwd c j)) 0 j) ∗ (bigSep Finset.univ fun j : Fin 15 => slotPts c j fr)
        ∗ bigSep Finset.univ fun j : Fin 15 => oPts c (fwd c j) fullShare fo)
      ⊢ (bigSep Finset.univ (sigPre c) : sProp 𝕄) := by
  rw [← rev_sep fun j : Fin 15 => slotPts c j fr, ← bigSep_sep', ← bigSep_sep']
  refine bigSep_mono fun j _ => ?_
  show iprop(dutyTok ER (barCell (fwd c j)) 0 j ∗ slotPts c j.rev fr ∗ oPts c (fwd c j) fullShare fo) ⊢ sigPre c j
  unfold sigPre
  iintro ⟨H1, H2, H3⟩
  isplitl [H1]; · iexact H1
  isplitl [H2]; · iexists fr; iexact H2
  iexists fo; iexact H3

/-- What the transfers of each phase take, side by side. -/
theorem send1Pre_eq (c : Dev nD) : (bigSep Finset.univ (send1Pre m ρ c) : sProp 𝕄)
    = iprop((bigSep Finset.univ fun j : Fin 15 => pPts c (fwd c j) (part m ρ c)) ∗ (bigSep Finset.univ fun j : Fin 15 => iprop(∃ f, slotPts (fwd c j) j f))
        ∗ (bigSep Finset.univ fun j : Fin 15 => dutyTok ER (dmaCell 0 c j) 0 0) ∗ bigSep Finset.univ fun j : Fin 15 => dutyTok ER (dmaCell 1 (fwd c j) j) 0 0) := by
  rw [← bigSep_sep', ← bigSep_sep', ← bigSep_sep']; rfl
theorem send2Pre_eq (c : Dev nD) : (bigSep Finset.univ (send2Pre m ρ c) : sProp 𝕄)
    = iprop((bigSep Finset.univ fun j : Fin 15 => oPts c c (lent j) (ofin m ρ)) ∗ (bigSep Finset.univ fun j : Fin 15 => iprop(∃ f, oPts (fwd c j) c fullShare f))
        ∗ (bigSep Finset.univ fun j : Fin 15 => dutyTok ER (dmaCell 2 c j) 0 0) ∗ bigSep Finset.univ fun j : Fin 15 => dutyTok ER (dmaCell 3 (fwd c j) j) 0 0) := by
  rw [← bigSep_sep', ← bigSep_sep', ← bigSep_sep']; rfl
omit [FloatOps F] in
theorem waitPre_eq (k : Fin 4) (c : Dev nD) : (bigSep Finset.univ (waitPre k c) : sProp 𝕄)
    = iprop((bigSep Finset.univ fun j : Fin 15 => cred (tallyAt (dmaCell k c j) () N)) ∗ bigSep Finset.univ fun j : Fin 15 => atPos ER (dmaCell k c j) 0 ∅ 0) :=
  pair_sep (fun j => cred (tallyAt (dmaCell k c j) () N)) (fun j => atPos ER (dmaCell k c j) 0 ∅ 0)
theorem waitPost_eq (k : Fin 4) (c : Dev nD) : (bigSep Finset.univ (waitPost m ρ k c) : sProp 𝕄)
    = iprop((bigSep Finset.univ fun j : Fin 15 => xferPay m ρ c k j) ∗ bigSep Finset.univ fun j : Fin 15 => semVal (dmaCell k c j) 0) :=
  pair_sep (fun j => xferPay m ρ c k j) (fun j => semVal (dmaCell k c j) 0)

/-- After phase 2 a device holds its result whole: its own chunk in its shares, the others as they came. -/
theorem result_whole (c : Dev nD) :
    iprop(oPts c c kept (ofin m ρ) ∗ (bigSep Finset.univ fun j : Fin 15 => xferPay m ρ c 2 j) ∗ bigSep Finset.univ fun j : Fin 15 => xferPay m ρ c 3 j)
      ⊢ (((c : Thread nD τ).loc cc0_stg3_0) ↦{fullShare} ofin m ρ : sProp 𝕄) := by
  rw [o_whole c (ofin m ρ), o_shares c c (ofin m ρ)]
  rw [show (bigSep Finset.univ fun j : Fin 15 => (xferPay m ρ c 3 j : sProp 𝕄)) = bigSep Finset.univ fun j : Fin 15 => oPts c (fwd c j) fullShare (ofin m ρ) from
    (rev_sep _).symm.trans (bigSep_congr fun j _ => by show oPts c (bwd c j.rev) fullShare (ofin m ρ) = _; rw [bwd_rev])]
  iintro ⟨Hk, Hl, Ho⟩
  isplitl [Hk Hl]
  · isplitl [Hk]; · iexact Hk
    iexact Hl
  iexact Ho

/-! ## The body -/

/-- What a device's body takes: its operands staged, its result buffer and scratch at any contents, its tokens, positions
    and credits, and owing what it owes at launch. -/
def lineEntry (c : Dev nD) : sProp 𝕄 :=
  iprop(staged m ρ c ∗ (∃ f, ((c : Thread nD τ).loc cc0_stg3_0) ↦{fullShare} f) ∗ scratch c ∗ payToks c ∗ posns c ∗ credits c ∗ world m ρ K c (O₀ c))

/-- What it leaves: the result at `ofin`, everything else back, every semaphore closed, nothing owed. -/
def lineExit (c : Dev nD) : sProp 𝕄 :=
  iprop(staged m ρ c ∗ (((c : Thread nD τ).loc cc0_stg3_0) ↦{fullShare} ofin m ρ) ∗ scratch c ∗ closed c ∗ ∃ W, owes (c : Thread nD τ) 0 W)

/-- Reading its own number. -/
theorem wp_dev (c : Dev nD) (k : Dev nD → Line F PUnit) (Q : PUnit → sProp 𝕄) : WP c (.op .deviceId k) Q = WP c (k c) Q :=
  wp_deviceId 𝒱₀ (c : Thread nD τ) none Set.univ

/-- The line, with its first operations in front. -/
theorem line_eq : (line : Line F PUnit) = .op .deviceId fun d => each 15 (sigStep d) (.op (.semWait barS 15) fun _ => products.bind fun _ => phases d) := rfl

/-- The two phases, likewise. -/
theorem phases_eq (d : Dev nD) : (phases d : Line F PUnit) = each 15 (send1Step d)
    (.op (.load pM (ownR d).toLoadRect (View.loadsAt_vmem h_S1x48x768)) fun v =>
    loop 15 (recv1Step d) (shapeCast S48x768 v shapeCasts_S1x48x768_S48x768) fun a =>
    .op (.load oM (ownR d).toLoadRect (View.loadsAt_vmem h_S1x48x768)) fun _ =>
    .op (.store oM (ownR d) (shapeCast S1x48x768 a shapeCasts_S48x768_S1x48x768) Finset.univ (View.stores_vmem_bits_univ h_S1x48x768 rfl) (.inl rfl)) fun _ =>
    each 15 (send2Step d) <| each 15 (recv2Step d) <| each 15 (sentStep d) <| .ret ⟨⟩) := rfl

set_option maxHeartbeats 1000000 in
theorem sound_line (c : Dev nD) (Kt : PUnit → sProp 𝕄) :
    iprop(lineEntry m ρ K c ∗ (lineExit m ρ c -∗ Kt ⟨⟩)) ⊢ WP c (line (F := F)) Kt := by
  unfold lineEntry scratch payToks posns credits O₀
  rw [four_sep]
  rw [line_eq, wp_dev]
  iintro ⟨⟨Hst, ⟨%fo, Ho⟩, ⟨Hsp, Hsh, ⟨%fr, Hr⟩⟩, ⟨HtB, Ht0, Ht1, Ht2, Ht3⟩, ⟨HaB, Ha0, Ha1, Ha2, Ha3⟩, ⟨HcB, Hc1, Hc3⟩, HW⟩, HK⟩
  -- the signals
  ihave Ho' := (Entails.of_eq (o_whole c fo)) $$ Ho
  icases Ho' with ⟨Hown, Hoth⟩
  ihave Hr' := (Entails.of_eq (r_whole c fr)) $$ Hr
  ihave Hsig := (sigPre_intro c fr fo) $$ [HtB Hr' Hoth]
  · isplitl [HtB]; · iexact HtB
    isplitl [Hr']; · iexact Hr'
    iexact Hoth
  iapply (sig_loop m ρ K _ c (rem (owesDma 1 c) 0 + rem (owesDma 3 c) 0)) $$ [Hsig HW]
  · isplitl [Hsig]; · iexact Hsig
    iexact HW
  iintro HW
  -- the barrier
  iapply (wp_barrier m ρ K c _ ((above_1 c 0).add ((above_3 c 0).mono (by decide)))) $$ [HcB HaB HW]
  · isplitl [HcB HaB]
    · isplitl [HcB]; · iexact HcB
      iexact HaB
    iexact HW
  rw [pair_sep]
  iintro ⟨⟨Hslots, Hchunks⟩, HzB, HW⟩
  -- the products
  iapply (wp_products m ρ c) $$ [Hst Hsp Hsh]
  · isplitl [Hst]; · iexact Hst
    isplitl [Hsh]; · iexact Hsh
    iexact Hsp
  iintro ⟨Hst, Hh, Hp⟩
  rw [phases_eq]
  -- phase 1
  ihave Hp' := (Entails.of_eq (p_whole c (part m ρ c))) $$ Hp
  icases Hp' with ⟨Hpown, Hpoth⟩
  iapply (send1_loop m ρ K _ c (rem (owesDma 3 c) 0)) $$ [Hpoth Hslots Ht0 Ht1 HW]
  · rw [send1Pre_eq]
    isplitl [Hpoth Hslots Ht0 Ht1]
    · isplitl [Hpoth]; · iexact Hpoth
      isplitl [Hslots]; · iexact Hslots
      isplitl [Ht0]; · iexact Ht0
      iexact Ht1
    iexact HW
  iintro ⟨Hc0, HW⟩
  iapply (wp_load_p c (k0_off2_eq c) (part m ρ c)) $$ [Hpown]
  · iexact Hpown
  iintro Hpown
  rw [show shapeCast S48x768 (row16 (part m ρ c) c) shapeCasts_S1x48x768_S48x768 = acc m ρ c 0 from rfl]
  iapply (recv1_loop m ρ K _ c _ (above_3 c 0)) $$ [Hc1 Ha1 HW]
  · rw [waitPre_eq]
    isplitl [Hc1 Ha1]
    · isplitl [Hc1]; · iexact Hc1
      iexact Ha1
    iexact HW
  rw [waitPost_eq]
  iintro ⟨⟨Hs1, Hz1⟩, HW⟩
  -- the sum stored
  iapply (wp_load_o c (k0_off2_eq c) fo (fun v => rfl)) $$ [Hown]
  · iexact Hown
  iintro Hown
  rw [show shapeCast S1x48x768 (acc m ρ c 15) shapeCasts_S48x768_S1x48x768 = sumAt m ρ c from rfl]
  iapply (wp_store_o m ρ c (k0_off2_eq c) fo) $$ [Hown]
  · iexact Hown
  iintro Hown
  -- phase 2
  ihave Hown' := (Entails.of_eq (o_shares c c (ofin m ρ))) $$ Hown
  icases Hown' with ⟨Hkept, Hlent⟩
  iapply (send2_loop m ρ K _ c) $$ [Hlent Hchunks Ht2 Ht3 HW]
  · rw [send2Pre_eq]
    isplitl [Hlent Hchunks Ht2 Ht3]
    · isplitl [Hlent]; · iexact Hlent
      isplitl [Hchunks]; · iexact Hchunks
      isplitl [Ht2]; · iexact Ht2
      iexact Ht3
    iexact HW
  iintro ⟨Hc2, HW⟩
  iapply (recv2_loop m ρ K _ c) $$ [Hc3 Ha3 HW]
  · rw [waitPre_eq]
    isplitl [Hc3 Ha3]
    · isplitl [Hc3]; · iexact Hc3
      iexact Ha3
    iexact HW
  rw [waitPost_eq]
  iintro ⟨⟨Hs3, Hz3⟩, HW⟩
  -- the waits on what was sent
  iapply (sent_loop m ρ K _ c) $$ [Hc0 Ha0 Hc2 Ha2 HW]
  · rw [pair_sep, waitPre_eq, waitPre_eq]
    isplitl [Hc0 Ha0 Hc2 Ha2]
    · isplitl [Hc0 Ha0]
      · isplitl [Hc0]; · iexact Hc0
        iexact Ha0
      isplitl [Hc2]; · iexact Hc2
      iexact Ha2
    iexact HW
  rw [pair_sep, waitPost_eq, waitPost_eq]
  iintro ⟨⟨⟨Hs0, Hz0⟩, ⟨Hs2, Hz2⟩⟩, HW⟩
  -- everything back
  unfold WP
  rw [wp_ret]; imodintro
  iapply HK
  unfold lineExit scratch closed world
  rw [four_sep]
  icases HW with ⟨-, -, HO⟩
  isplitl [Hst]; · iexact Hst
  isplitl [Hkept Hs2 Hs3]
  · iapply (result_whole m ρ c)
    isplitl [Hkept]; · iexact Hkept
    isplitl [Hs2]; · iexact Hs2
    iexact Hs3
  isplitl [Hpown Hs0 Hh Hs1]
  · isplitl [Hpown Hs0]
    · iexists (part m ρ c)
      rw [p_whole c (part m ρ c)]
      isplitl [Hpown]; · iexact Hpown
      iexact Hs0
    isplitl [Hh]
    · iexists (hid m ρ c); iexact Hh
    iexists (rfin m ρ c)
    rw [r_whole c (rfin m ρ c)]
    iexact Hs1
  isplitl [HzB Hz0 Hz1 Hz2 Hz3]
  · isplitl [HzB]; · iexact HzB
    isplitl [Hz0]; · iexact Hz0
    isplitl [Hz1]; · iexact Hz1
    isplitl [Hz2]; · iexact Hz2
    iexact Hz3
  iexact HO

end Cert.AllSum

end
-- ==== Proof.Launch.lean ====
/-
# The launch and the run

Each device's body against the launch's bookkeeping, the ghost state dealt to all devices at once, the credits, and the
run of the whole program for any float values.
-/
module

public import proofs.«01_k».proof.Proof.Body
public import proofs.«01_k».proof.Proof.Gen.KernelIdeal.Points
public import Idealize.ShloMosaic.Lib.Pipeline.CollectiveSegs

@[expose] public section

noncomputable section

namespace Cert.AllSum

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The bookkeeping of a device -/

/-- What stays with device `c` of the ghost state: its positions, and the tokens of the duties it pays. -/
def linear (c : Dev nD) : sProp 𝕄 := iprop(posns c ∗ payToks c)
/-- Its ghost state, at some names of the invariants. -/
def ghost (c : Dev nD) : sProp 𝕄 := iprop(∃ K, records m ρ K ∗ linear c)
/-- What its body starts from, besides the buffers. -/
def start (c : Dev nD) : sProp 𝕄 := iprop(ghost m ρ c ∗ credits c ∗ levAts L lv)

def Φ₀ (c : Dev nD) : sProp 𝕄 := iprop(start m ρ c ∗ scratch c)
def Φ₁ (c : Dev nD) : sProp 𝕄 := iprop(scratch c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => w1stg m ρ c
    | ⟨2, _⟩ => w2stg m ρ c
    | ⟨3, _⟩ => ofin m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg_fin (t : Fin cfg0.N) : t = t0_0 := fin_N0 t

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- Staging buffer `b` whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) :
    (((c : Thread nD τ).loc b) ↦{fullShare} X : sProp 𝕄) ⊢ stg c b X := by
  unfold stg
  iintro H
  iexists X
  isplitr; · ipureintro; rfl
  iexact H
theorem stg_elim (c : Dev nD) (b : Ref sig .tc) (X : b.ty.Contents (Elt F)) :
    stg c b X ⊢ (((c : Thread nD τ).loc b) ↦{fullShare} X : sProp 𝕄) := by
  unfold stg
  iintro ⟨%f, %hf, H⟩
  subst hf
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ c ∗ (dats m ρ 0 c).owesAt () t0_0.succ ∗ stg c cc0_stg0_0 (xstg m ρ c) ∗ stg c cc0_stg1_0 (w1stg m ρ c)
    ∗ stg c cc0_stg2_0 (w2stg m ρ c) ∗ stg c cc0_stg3_0 (ofin m ρ))

theorem before_x (c : Dev nD) (d) : (dats m ρ 0 c).before (0 : Fin 4) t0_0 d = xstg m ρ c := by
  unfold Dat.before; rw [if_pos (fetch0_0 t0_0)]; rfl
theorem before_w1 (c : Dev nD) (d) : (dats m ρ 0 c).before (1 : Fin 4) t0_0 d = w1stg m ρ c := by
  unfold Dat.before; rw [if_pos (fetch0_1 t0_0)]; rfl
theorem before_w2 (c : Dev nD) (d) : (dats m ρ 0 c).before (2 : Fin 4) t0_0 d = w2stg m ρ c := by
  unfold Dat.before; rw [if_pos (fetch0_2 t0_0)]; rfl

/-- The body's entry is the line's, at the names of the ghost state. -/
theorem entry_intro (c : Dev nD) : bodyPre m ρ c ⊢ iprop(∃ K, lineEntry m ρ K c) := by
  unfold bodyPre Φ₀ start ghost linear lineEntry staged world Dat.owesAt Pipeline.owesWithin
  iintro ⟨⟨⟨⟨%K, #HR, Hpos, Htok⟩, Hcr, #Hlev⟩, Hscr⟩, ⟨%W, %hW, HO⟩, ⟨%d0, Hx⟩, ⟨%d1, Hw1⟩, ⟨%d2, Hw2⟩, ⟨%d3, Ho⟩⟩
  iexists K
  isplitl [Hx Hw1 Hw2]
  · isplitl [Hx]; · iapply (stg_elim c cc0_stg0_0 (xstg m ρ c)); rw [← before_x m ρ c d0]; iexact Hx
    isplitl [Hw1]; · iapply (stg_elim c cc0_stg1_0 (w1stg m ρ c)); rw [← before_w1 m ρ c d1]; iexact Hw1
    iapply (stg_elim c cc0_stg2_0 (w2stg m ρ c)); rw [← before_w2 m ρ c d2]; iexact Hw2
  isplitl [Ho]
  · ihave Ho := (stg_elim c cc0_stg3_0 _) $$ Ho
    iexists _; iexact Ho
  isplitl [Hscr]; · iexact Hscr
  isplitl [Htok]; · iexact Htok
  isplitl [Hpos]; · iexact Hpos
  isplitl [Hcr]; · iexact Hcr
  isplitr; · iexact HR
  isplitr; · iexact Hlev
  iexists W; iexact HO

/-- The line's exit is the body's. -/
theorem exit_elim (c : Dev nD) : lineExit m ρ c ⊢ bodyPost m ρ c := by
  unfold bodyPost Φ₁ lineExit staged Dat.owesAt Pipeline.owesWithin
  rw [show (dats m ρ 0 c).owed t0_0.succ = 0 from rfl]
  iintro ⟨⟨Hx, Hw1, Hw2⟩, Ho, Hscr, Hcl, ⟨%W, HO⟩⟩
  isplitl [Hscr Hcl]
  · isplitl [Hscr]; · iexact Hscr
    iexact Hcl
  isplitl [HO]
  · iexists W
    isplitr; · ipureintro; exact fun _ _ => Or.inl trivial
    iexact HO
  isplitl [Hx]; · iapply (stg_intro c cc0_stg0_0); iexact Hx
  isplitl [Hw1]; · iapply (stg_intro c cc0_stg1_0); iexact Hw1
  isplitl [Hw2]; · iapply (stg_intro c cc0_stg2_0); iexact Hw2
  iapply (stg_intro c cc0_stg3_0); iexact Ho

theorem sound_body (c : Dev nD) : bodyPre m ρ c ⊢ WP c (line (F := F)) (fun _ => bodyPost m ρ c) := by
  refine (entry_intro m ρ c).trans ?_
  iintro ⟨%K, H⟩
  iapply (sound_line m ρ K c fun _ => bodyPost m ρ c)
  isplitl [H]; · iexact H
  iintro H
  iapply (exit_elim m ρ c); iexact H

set_option maxRecDepth 8000 in
/-- The body obligation of the launch. -/
theorem body_obligation (c : Dev nD) : BodyObligation (dats (F := F) m ρ 0 c) (defs₀ (F := F)) 𝒱₀ () Set.univ := fun t => by
  rw [cfg_fin t]
  rw [bigSep_W, bigSep_W]
  simp only [owns_whole_eq]
  show bodyPre m ρ c ⊢ WP c (bodyAt0 t0_0) (fun _ => bodyPost m ρ c)
  rw [show (bodyAt0 t0_0 : Line F PUnit) = line from body_eq_line]
  exact sound_body m ρ c

/-! ## The ghost state dealt -/

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own semaphores: fifteen of its barrier's, one of each transfer semaphore's. -/
abbrev tokOf (cx : Dev nD × (Fin 15 ⊕ Fin 4 × Fin 15)) : GSem nD τ sig × ℕ × Fin 15 := match cx.2 with
  | .inl j => (barCell cx.1, 0, j)
  | .inr kj => (kcell (cx.1, some kj), 0, 0)
theorem tokOf_injective : Function.Injective (tokOf : Dev nD × (Fin 15 ⊕ Fin 4 × Fin 15) → GSem nD τ sig × ℕ × Fin 15) := by
  rintro ⟨c, x⟩ ⟨c', x'⟩ h
  have h1 := congrArg Prod.fst h
  have h2 := congrArg (fun y : GSem nD τ sig × ℕ × Fin 15 => y.2.2) h
  rcases x with j | kj <;> rcases x' with j' | kj' <;> have h3 := kcell_injective h1
  · cases h3; cases h2; rfl
  · cases h3
  · cases h3
  · cases h3; rfl
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own semaphores. -/
def toks (c : Dev nD) : sProp 𝕄 :=
  iprop((bigSep Finset.univ fun j : Fin 15 => dutyTok ER (barCell c) 0 j) ∗ bigSep Finset.univ fun kj : Fin 4 × Fin 15 => dutyTok ER (kcell (c, some kj)) 0 0)

/-- What the launch element deals device `c`. -/
def G (c : Dev nD) : sProp 𝕄 :=
  iprop((bigSep Finset.univ fun x : CI => roundState ER (plan m ρ) (kcell (c, x)) 0)
    ∗ (bigSep Finset.univ fun x : CI => iprop(atPos ER (kcell (c, x)) 0 ∅ 0 ∗ reached ER (kcell (c, x)) 0)) ∗ toks c)

/-- Over a device's semaphores: its barrier's, and the transfers'. -/
theorem ci_sep (Φ : CI → sProp 𝕄) : bigSep Finset.univ Φ = iprop(Φ none ∗ bigSep Finset.univ fun kj : Fin 4 × Fin 15 => Φ (some kj)) := by
  rw [bigSep_univ_at Φ none, show Finset.univ.erase (none : CI) = Finset.univ.map ⟨some, Option.some_injective _⟩ from by
    ext x; cases x <;> simp, bigSep_map]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : CI => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (plan m ρ) ringCells ringToks) $$ HX with ⟨Hst, Hr, Hat, Htok⟩
  imodintro
  ihave Hst' := (Entails.of_eq (hX fun g => roundState ER (plan m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfers' semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun kj : Fin 4 × Fin 15 => semVal (kcell (c, some kj)) 0 := rfl
/-- the barrier's the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell (c, x)) 0 : sProp 𝕄) := by
  rw [ownSems0_eq, unscopedSems0_eq, ci_sep]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CI => iprop(∃ κ : ℕ, cellInv ER (plan m ρ) κ (kcell (c, x))))
          ∗ (bigSep Finset.univ fun x : CI => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CI => semVal (kcell (c, x)) 0) ∗ bigSep Finset.univ fun x : CI => roundState ER (plan m ρ) (kcell (c, x)) 0)
      ⊢ (|={Set.univ}=> bigSep Finset.univ fun x : CI => iprop(∃ κ : ℕ, cellInv ER (plan m ρ) κ (kcell (c, x))) : sProp 𝕄) from by
        rw [← bigSep_sep']
        exact (bigSep_mono fun x _ => (Rounds.body_intro ER (plan m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and offsets, dealt around: each device takes what stands for the device `j + 1` further. -/
theorem around (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (fwd c j) j := by
  rw [bigSep_univ_comm Φ, bigSep_univ_comm fun c j => Φ (fwd c j) j]
  exact bigSep_congr fun j _ => bigSep_univ_equiv (turn j) fun c => Φ c j

/-- The tokens dealt around: the barriers', and those of the semaphores that others' transfers pay. -/
theorem toks_around : (bigSep Finset.univ fun c : Dev nD => (toks c : sProp 𝕄)) ⊢ bigSep Finset.univ fun c : Dev nD => payToks c := by
  unfold toks payToks
  simp only [four_sep, bigSep_sep']
  rw [around fun c j => dutyTok ER (barCell c) 0 j, around fun c j => dutyTok ER (kcell (c, some (1, j))) 0 0,
    around fun c j => dutyTok ER (kcell (c, some (3, j))) 0 0]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m ρ K ∗ linear c) ⊢ ghost m ρ c := by
  unfold ghost
  iintro H
  iexists K; iexact H

theorem regroup :
    (bigSep Finset.univ fun c : Dev nD => iprop((bigSep Finset.univ fun x : CI => iprop(∃ κ : ℕ, cellInv ER (plan m ρ) κ (kcell (c, x))))
          ∗ (bigSep Finset.univ fun x : CI => iprop(atPos ER (kcell (c, x)) 0 ∅ 0 ∗ reached ER (kcell (c, x)) 0)) ∗ toks c) : sProp 𝕄)
      ⊢ bigSep Finset.univ (ghost m ρ) := by
  rw [bigSep_sep', bigSep_sep', ← bigSep_univ_prod (fun cx : Dev nD × CI => iprop(∃ κ : ℕ, cellInv ER (plan m ρ) κ (kcell cx))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun cx : Dev nD × CI => (reached ER (kcell cx) 0 : sProp 𝕄))]
  iintro ⟨HI, ⟨Hat, #HR⟩, Htok⟩
  ihave HK := (BI.bigSep_exists_pi Finset.univ (fun (cx : Dev nD × CI) (κ : ℕ) => (cellInv ER (plan m ρ) κ (kcell cx) : sProp 𝕄))) $$ HI
  icases HK with ⟨%K, #HI⟩
  ihave Htk := (toks_around (F := F)) $$ Htok
  iapply (with_records (R := records m ρ K) fun c _ => ghost_intro m ρ K c)
  isplitr
  · unfold records; isplitl; · iexact HI
    iexact HR
  · iapply ((Entails.of_eq (bigSep_sep' Finset.univ (fun c : Dev nD => bigSep Finset.univ fun x : CI => (atPos ER (kcell (c, x)) 0 ∅ 0 : sProp 𝕄)) payToks).symm).trans
      (bigSep_mono fun c _ => show _ ⊢ linear c from Entails.of_eq (by unfold linear posns; rw [ci_sep])))
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credits -/

/-- What all devices together owe a cell by one family of debts, a device's `j`-th debt lying `j + 1` devices further. -/
theorem owed_family (y : Fin 15 → CI) (n : ℕ) (c : Dev nD) (x : CI) :
    (∑ d : Dev nD, (rem (fun j => tallyAt (kcell (fwd d j, y j)) () n) 0 : CellTallies nD τ sig Unit) (kcell (c, x)) ()) = ∑ j : Fin 15, if y j = x then n else 0 := by
  have h1 (d : Dev nD) : (rem (fun j => tallyAt (kcell (fwd d j, y j)) () n) 0 : CellTallies nD τ sig Unit) (kcell (c, x)) ()
      = ∑ j : Fin 15, (tallyAt (kcell (fwd d j, y j)) () n : CellTallies nD τ sig Unit) (kcell (c, x)) () := by
    rw [rem_all, Finset.sum_apply, Finsupp.finset_sum_apply]
  rw [Finset.sum_congr rfl fun d _ => h1 d, Finset.sum_comm]
  refine Finset.sum_congr rfl fun j _ => ?_
  refine (Equiv.sum_comp (turn j) fun d => (tallyAt (kcell (d, y j)) () n : CellTallies nD τ sig Unit) (kcell (c, x)) ()).trans ?_
  rw [Finset.sum_eq_single c]
  · rw [tallyAt_apply]
    by_cases h : y j = x
    · rw [if_pos ⟨by rw [h], rfl⟩, if_pos h]
    · rw [if_neg fun h' => h (congrArg Prod.snd (kcell_injective h'.1)).symm, if_neg h]
  · intro d _ hd
    rw [tallyAt_apply, if_neg fun h' => hd (congrArg Prod.fst (kcell_injective h'.1)).symm]
  · exact fun h => absurd (Finset.mem_univ c) h

/-- What all devices together owe a cell. -/
def total : CI → ℕ
  | none => 15
  | some (1, _) => N
  | some (3, _) => N
  | _ => 0

theorem owed_total (c : Dev nD) (x : CI) : (∑ d : Dev nD, O₀ d (kcell (c, x)) ()) = total x := by
  unfold O₀
  simp only [Pi.add_apply, Finsupp.add_apply, Finset.sum_add_distrib]
  rw [owed_family (fun _ => none) 1 c x, owed_family (fun j => some (1, j)) N c x, owed_family (fun j => some (3, j)) N c x]
  rcases x with _ | ⟨k, i⟩
  · simp [total]
  · fin_cases k <;> simp [total]

theorem launch_total (c : Dev nD) (x : CI) :
    tallyOn (kcell (c, x)) (launchCredit (Pipeline.owing O₀) 0 (kcell (c, x))) = (tallyAt (kcell (c, x)) () (total x) : CellTallies nD τ sig Unit) := by
  unfold tallyAt; refine congrArg _ (Finsupp.ext fun u => ?_); cases u
  rw [Pipeline.launchCredit_owing, Finsupp.single_eq_same, owed_total]

theorem creds (c : Dev nD) : (Pipeline.launchCred O₀ c : sProp 𝕄) ⊢ credits c := by
  unfold Pipeline.launchCred
  refine (bigSep_subset (Finset.subset_univ (Finset.univ.map ⟨csem, csem_injective⟩))).trans ?_
  rw [bigSep_map]
  refine (show _ ⊢ bigSep Finset.univ fun x : CI => cred (tallyAt (kcell (c, x)) () (total x)) from
    Entails.of_eq (bigSep_congr fun x _ => congrArg cred (launch_total c x))).trans ?_
  rw [ci_sep, four_sep]
  show iprop(cred (tallyAt (barCell c) () 15) ∗ (bigSep Finset.univ fun j : Fin 15 => cred (tallyAt (dmaCell 0 c j) () 0))
    ∗ (bigSep Finset.univ fun j : Fin 15 => cred (tallyAt (dmaCell 1 c j) () N)) ∗ (bigSep Finset.univ fun j : Fin 15 => cred (tallyAt (dmaCell 2 c j) () 0))
    ∗ bigSep Finset.univ fun j : Fin 15 => cred (tallyAt (dmaCell 3 c j) () N)) ⊢ credits c
  unfold credits
  iintro ⟨HB, -, H1, -, H3⟩
  isplitl [HB]; · iexact HB
  isplitl [H1]; · iexact H1
  iexact H3

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch closed
  iintro ⟨Hr, HzB, Hz⟩
  isplitl [HzB]; · iexact HzB
  isplitl [Hz]; · iexact Hz
  iexact Hr

theorem stage_level (c : Dev nD) (w : Fin cfg0.W) (s : Fin (cfg0.spec w).nbuf) : lv ((c : Thread nD τ), .dma ((cfg0.spec w).sem s)) () ≤ 0 := by
  fin_cases w <;> fin_cases s <;> exact Nat.le_of_eq (congrArg lvOf (decode_stage _ (by decide)))

theorem waits (c : Dev nD) : (levAts L lv : sProp 𝕄) ⊢ Pipeline.cellsWaits cfgs (dats m ρ) () 0 c :=
  Pipeline.cellsWaits_intro cfgs (dats m ρ) () 0 c fun w s t =>
    mayWait c _ _ 0 (stage_level c w s) (by
      rcases t with ⟨_ | _, ht⟩
      · exact above_O₀ c
      · exact Above.zero 0)

/-! ## The run -/

/-- What the window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, for any float values, from any memory with zero counters: every weakly fair execution of the
    program terminates, and every final state has each window's array at its computed contents and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds at the end what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.AllSum

end
-- ==== Proof.Products.lean ====
/-
# The products at an element

A device's partial product and the reference's result, read at an element as sums of products of extended reals, and the
sixteen devices' partial products adding up to the reference's result.
-/
module

public import proofs.«01_k».proof.Proof.Gen.KernelIdeal.Skeleton
public import proofs.«01_k».proof.Proof.Gen.ReferenceIdeal
public import Idealize.ShloMosaic.Lib.Pointwise
public import Idealize.ShloMosaic.Lib.Layout

@[expose] public section

noncomputable section

namespace Cert.AllSum

open Idealize.ShloMosaic

/-- The reference's result, as a function of its operands. -/
def refOut (x : FVec Ideal Cert.ReferenceIdeal.S768x768 .f32) (w1 : FVec Ideal Cert.ReferenceIdeal.S768x24576 .f32)
    (w2 : FVec Ideal Cert.ReferenceIdeal.S24576x768 .f32) : FVec Ideal Cert.ReferenceIdeal.S16x48x768 .f32 :=
  shapeCast _ (Host.dotGeneral Cert.ReferenceIdeal.dot_S768x24576_S24576x768_S768x768_1_0_0_1_n_n none
    (maximumf (Host.dotGeneral Cert.ReferenceIdeal.dot_S768x768_S768x24576_S768x24576_1_0_0_1_n_n none x w1)
      (broadcastInDim Cert.ReferenceIdeal.S768x24576 ![] Cert.ReferenceIdeal.Gen.bcast_S_S768x24576 (constant Cert.ReferenceIdeal.S_ .f32 0x00000000#32))) w2)
    Cert.ReferenceIdeal.Gen.shapeCasts_S768x768_S16x48x768

/-- A device's hidden layer at an element: the product's, or zero if that is larger. -/
theorem hidden_apply (x : FVec Ideal Cert.KernelIdeal.S768x768 .f32) (w : FVec Ideal Cert.KernelIdeal.S768x1536 .f32) (r : Fin 768) (k : Fin 1536) :
    Cert.KernelIdeal.Gen.k0_pay1 (F := Ideal) x w (ix2 r k) = max (∑ l : Fin 768, x (ix2 r l) * w (ix2 l k)) 0 := by
  pointwise [Cert.KernelIdeal.Gen.k0_pay1]

/-- A device's partial product at an element of chunk `t`. -/
theorem partial_apply (h : FVec Ideal Cert.KernelIdeal.S768x1536 .f32) (w : FVec Ideal Cert.KernelIdeal.S1536x768 .f32) (t : Fin 16) (a : Fin 48) (q : Fin 768) :
    Cert.KernelIdeal.Gen.k0_pay2 (F := Ideal) h w (ix3 t a q) = ∑ k : Fin 1536, h (ix2 ⟨t.val * 48 + a.val, by omega⟩ k) * w (ix2 k q) := by
  pointwise [Cert.KernelIdeal.Gen.k0_pay2]

/-- The reference's result at an element of chunk `t`. -/
theorem refOut_apply (x : FVec Ideal Cert.ReferenceIdeal.S768x768 .f32) (w1 : FVec Ideal Cert.ReferenceIdeal.S768x24576 .f32)
    (w2 : FVec Ideal Cert.ReferenceIdeal.S24576x768 .f32) (t : Fin 16) (a : Fin 48) (q : Fin 768) :
    refOut x w1 w2 (ix3 t a q)
      = ∑ k : Fin 24576, max (∑ l : Fin 768, x (ix2 ⟨t.val * 48 + a.val, by omega⟩ l) * w1 (ix2 l k)) 0 * w2 (ix2 k q) := by
  pointwise [refOut]

/-- Position `k` of device `e`'s part of the hidden layer, in the whole layer. -/
def place (e : Fin 16) (k : Fin 1536) : Fin 24576 := ⟨e.val * 1536 + k.val, by omega⟩

/-- A sum over the whole hidden layer is the sum over the devices of the sums over their parts. -/
theorem sum_parts {M : Type} [AddCommMonoid M] (g : Fin 24576 → M) : ∑ k, g k = ∑ e : Fin 16, ∑ k : Fin 1536, g (place e k) := by
  rw [← Fintype.sum_prod_type' (f := fun e k => g (place e k))]
  refine (Equiv.sum_comp (finProdFinEquiv (m := 16) (n := 1536)) g).symm.trans (Finset.sum_congr rfl fun ek _ => congrArg g (Fin.ext ?_))
  show ek.2.val + 1536 * ek.1.val = ek.1.val * 1536 + ek.2.val
  omega

/-- The sixteen devices' partial products add up to the reference's result. -/
theorem sum_partials (x : FVec Ideal Cert.ReferenceIdeal.S768x768 .f32) (w1 : FVec Ideal Cert.ReferenceIdeal.S768x24576 .f32)
    (w2 : FVec Ideal Cert.ReferenceIdeal.S24576x768 .f32) (t : Fin 16) (a : Fin 48) (q : Fin 768) :
    (∑ e : Fin 16, Cert.KernelIdeal.Gen.k0_pay2 (F := Ideal)
        (Cert.KernelIdeal.Gen.k0_pay1 (F := Ideal) x (Layout.block ⟨2, ![768, 1536]⟩ ⟨2, ![768, 24576]⟩ 1 16 e w1))
        (Layout.block ⟨2, ![1536, 768]⟩ ⟨2, ![24576, 768]⟩ 0 16 e w2) (ix3 t a q))
      = refOut x w1 w2 (ix3 t a q) := by
  rw [refOut_apply, sum_parts]
  refine Finset.sum_congr rfl fun e _ => ?_
  rw [partial_apply]
  refine Finset.sum_congr rfl fun k _ => ?_
  rw [hidden_apply]
  have h1 (l : Fin 768) : Layout.block ⟨2, ![768, 1536]⟩ ⟨2, ![768, 24576]⟩ 1 16 e w1 (by decide) (ix2 l k) = w1 (ix2 l (place e k)) :=
    congrArg w1 (funext fun b => by fin_cases b <;> rfl)
  have h2 : Layout.block ⟨2, ![1536, 768]⟩ ⟨2, ![24576, 768]⟩ 0 16 e w2 (by decide) (ix2 k q) = w2 (ix2 (place e k) q) :=
    congrArg w2 (funext fun b => by fin_cases b <;> rfl)
  rw [h2]
  refine congrArg (fun s => max s 0 * w2 (ix2 (place e k) q)) (Finset.sum_congr rfl fun l _ => ?_)
  rw [h1]

end Cert.AllSum

end
-- ==== Proof.Value.lean ====
/-
# The value

Every device's result, read off the run over the extended reals, is the reference's: its chunk `c` is the sum, in device
`c`'s order, of all devices' partial products, and such a sum does not depend on the order.
-/
module

public import proofs.«01_k».proof.Proof.Launch
public import proofs.«01_k».proof.Proof.Products
public import Idealize.ShloMosaic.Lib.Pointwise.IndexBridge

@[expose] public section

noncomputable section

namespace Cert.AllSum

open Cert.KernelIdeal Cert.KernelIdeal.Gen
open Idealize.ShloMosaic Idealize.ShloMosaic.TcCoe

section Arrays

variable {F : FTy → Type} [FloatOps F]
variable (m : (ℓ : Loc nD τ sig) → Buf (Elt F) ℓ) (ρ : Dev nD → PrngReg)

/-- A device's staged operands are its arguments. -/
theorem xstg_eq (c : Dev nD) : xstg m ρ c = m ((c : Thread nD τ).loc main_arg0) :=
  Memref.read_access_unit_zero (Elt F) main_arg0 (funext fun a => by fin_cases a <;> decide) (fun a => by fin_cases a <;> decide) _
theorem w1stg_eq (c : Dev nD) : w1stg m ρ c = m ((c : Thread nD τ).loc main_arg1) :=
  Memref.read_access_unit_zero (Elt F) main_arg1 (funext fun a => by fin_cases a <;> decide) (fun a => by fin_cases a <;> decide) _
theorem w2stg_eq (c : Dev nD) : w2stg m ρ c = m ((c : Thread nD τ).loc main_arg2) :=
  Memref.read_access_unit_zero (Elt F) main_arg2 (funext fun a => by fin_cases a <;> decide) (fun a => by fin_cases a <;> decide) _

/-- The result array ends holding the result. -/
theorem finalA_out (c : Dev nD) : finalA m ρ c (3 : Fin 4) = ofin m ρ := by
  refine ((dats m ρ 0 c).arrAt_succ (3 : Fin 4) t0_0).trans ?_
  rw [flush0_3 t0_0, if_pos rfl]
  have hz : (fun a => win0_3.index t0_0 a * main_v1.ty.shape.size a) = fun _ => 0 := funext fun a => by fin_cases a <;> decide
  exact Memref.write_access_unit_zero_univ (Elt F) main_v1 hz (fun a => by fin_cases a <;> decide) _ _

end Arrays

variable (m : (ℓ : Loc nD τ sig) → Buf (Elt Ideal) ℓ) (ρ : Dev nD → PrngReg)

/-- Dropping the unit axis of a row reads the row. -/
theorem row_apply (f : FVec Ideal S1x48x768 .f32) (a : Fin 48) (q : Fin 768) :
    shapeCast S48x768 f shapeCasts_S1x48x768_S48x768 (ix2 a q) = f (ix3 (0 : Fin 1) a q) := by
  pointwise
/-- Adding a unit axis reads the sum. -/
theorem unrow_apply (f : FVec Ideal S48x768 .f32) (a : Fin 48) (q : Fin 768) :
    shapeCast S1x48x768 f shapeCasts_S48x768_S1x48x768 (ix3 (0 : Fin 1) a q) = f (ix2 a q) := by
  pointwise

/-- Device `e`'s partial product at element `(a, q)` of chunk `c`. -/
def term (c : Dev nD) (a : Fin 48) (q : Fin 768) (e : Dev nD) : EReal := part m ρ e (ix3 c a q)

/-- The running sum after `n` steps, at an element. -/
theorem acc_apply (c : Dev nD) (a : Fin 48) (q : Fin 768) : ∀ n : ℕ, n ≤ 15 →
    acc m ρ c n (ix2 a q) = term m ρ c a q c + ∑ j ∈ Finset.univ.filter (fun j : Fin 15 => j.val < n), term m ρ c a q (bwd c j) := by
  intro n
  induction n with
  | zero =>
    intro _
    rw [acc, row_apply, Finset.filter_false_of_mem (fun j _ => Nat.not_lt_zero _), Finset.sum_empty, add_zero]
    exact congrArg (part m ρ c) (ix3_eq_valueIdx c a q).symm
  | succ n ih =>
    intro hn
    have hs := acc_succ m ρ c ⟨n, hn⟩
    rw [show (Finset.univ.filter fun j : Fin 15 => j.val < n + 1) = insert (⟨n, hn⟩ : Fin 15) (Finset.univ.filter fun j : Fin 15 => j.val < n) from
      Finset.ext fun i => by simp only [Finset.mem_filter, Finset.mem_insert, Finset.mem_univ, true_and, Fin.ext_iff]; omega,
      Finset.sum_insert (by simp), add_left_comm, ← ih (by omega), show acc m ρ c (n + 1) = _ from hs]
    show acc m ρ c n (ix2 a q) + shapeCast S48x768 (row15 (rfin m ρ c) ⟨n, hn⟩) shapeCasts_S1x48x768_S48x768 (ix2 a q) = _
    rw [row_apply, add_comm]
    exact congrArg (· + acc m ρ c n (ix2 a q)) (congrArg (part m ρ (bwd c ⟨n, hn⟩)) (ix3_eq_valueIdx c a q).symm)

/-- A device's finished sum, at an element: all devices' partial products. -/
theorem sum_apply (c : Dev nD) (a : Fin 48) (q : Fin 768) : acc m ρ c 15 (ix2 a q) = ∑ e : Dev nD, term m ρ c a q e := by
  rw [acc_apply m ρ c a q 15 le_rfl, Finset.filter_true_of_mem (fun j _ => j.isLt),
    ← Finset.add_sum_erase Finset.univ (term m ρ c a q) (Finset.mem_univ c), others, Finset.sum_map]
  refine congrArg (term m ρ c a q c + ·) ((Equiv.sum_comp Fin.revPerm fun j : Fin 15 => term m ρ c a q (bwd c j)).symm.trans ?_)
  exact Finset.sum_congr rfl fun j _ => congrArg (term m ρ c a q) (bwd_rev c j)

/-- The result is the reference's, where the devices hold the operand `x` whole and their blocks of `w1` and `w2`. -/
theorem result_eq (x : FVec Ideal Cert.ReferenceIdeal.S768x768 .f32) (w1 : FVec Ideal Cert.ReferenceIdeal.S768x24576 .f32)
    (w2 : FVec Ideal Cert.ReferenceIdeal.S24576x768 .f32)
    (hx : ∀ c : Dev nD, m ((c : Thread nD τ).loc main_arg0) = x)
    (h1 : ∀ c : Dev nD, m ((c : Thread nD τ).loc main_arg1) = Layout.block ⟨2, ![768, 1536]⟩ ⟨2, ![768, 24576]⟩ 1 16 c w1)
    (h2 : ∀ c : Dev nD, m ((c : Thread nD τ).loc main_arg2) = Layout.block ⟨2, ![1536, 768]⟩ ⟨2, ![24576, 768]⟩ 0 16 c w2) :
    ofin m ρ = refOut x w1 w2 := by
  suffices h : ∀ (t : Fin 16) (a : Fin 48) (q : Fin 768), ofin m ρ (ix3 t a q) = refOut x w1 w2 (ix3 t a q) from
    funext fun i => (congrArg (ofin m ρ) (eq_ix3 i)).trans ((h (i 0) (i 1) (i 2)).trans (congrArg (refOut x w1 w2) (eq_ix3 i).symm))
  intro t a q
  refine (congrArg (sumAt m ρ t) (ix3_eq_valueIdx (0 : Fin 1) a q).symm).trans ?_
  rw [sumAt, unrow_apply, sum_apply, ← sum_partials]
  refine Finset.sum_congr rfl fun e _ => ?_
  unfold term part hid
  rw [xstg_eq, w1stg_eq, w2stg_eq, hx, h1, h2]

end Cert.AllSum

end
-- ==== Proof.lean ====
/-
# The claims

The kernel's run, proved once over any float values (Proof/Launch.lean), read at bit patterns and at extended reals; the
reference's run; and the equality of their results over the extended reals (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

section Arguments

open Cert.KernelIdeal Cert.AllSum

/-- A final state of the kernel leaves a device's arguments as they were. -/
theorem args_kept {F : FTy → Type} [FloatOps F] (m : (ℓ : Loc nD τ sig) → Buf (Elt F) ℓ) (ρ : Dev nD → PrngReg)
    {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h c (0 : Fin 4)).trans (finalA_in m ρ c (0 : Fin 4) rfl), (h c (1 : Fin 4)).trans (finalA_in m ρ c (1 : Fin 4) rfl),
    (h c (2 : Fin 4)).trans (finalA_in m ρ c (2 : Fin 4) rfl)⟩

/-- The kernel runs over any float values, leaves its arguments unchanged and every semaphore at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0 :=
  (θ_run defs _ _).mono (fun _ h => ⟨args_kept m ρ h.1, h.2⟩) (run_main m ρ)

end Arguments

/-- The two programs' body tables are the same: one label, the same body. -/
theorem bodies_same {F : FTy → Type} [FloatOps F] : Cert.Kernel.defs₀ (F := F) = Cert.KernelIdeal.defs₀ := by
  unfold Cert.Kernel.defs₀ Cert.KernelIdeal.defs₀
  refine congrArg Defs.onTc (funext fun l => ?_)
  match l with
  | 0 => rfl

/-- So are their tables with the pipelines. -/
theorem defs_same {F : FTy → Type} [FloatOps F] : Cert.Kernel.defs (F := F) = Cert.KernelIdeal.defs :=
  congrArg (Pipeline.defs Cert.KernelIdeal.pcfgs) bodies_same

/-- The kernel at bit patterns runs, leaves its arguments unchanged and every semaphore at zero: its text is the
    idealized program's. -/
theorem frame_kernel : Cert.quiescent_Kernel := fun m ρ _ => by
  rw [defs_same]; exact frame_any (F := Bits) m ρ

/-- So does the kernel at extended reals; -/
theorem frame_ideal : Cert.quiescent_KernelIdeal := fun m ρ _ => frame_any (F := Ideal) m ρ

/-- so does the reference, which has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's, over the extended reals. -/
theorem algebraic : Cert.algebraic_KernelIdeal_ReferenceIdeal := fun m ρ m' ρ' _ hm =>
  ⟨Cert.AllSum.refOut (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2)),
    (θ_run Cert.KernelIdeal.defs _ _).mono
      (fun _ h c => ⟨(h.1 c (3 : Fin 4)).trans ((Cert.AllSum.finalA_out m ρ c).trans
        (Cert.AllSum.result_eq m ρ _ _ _ (fun d => (hm d).1) (fun d => (hm d).2.1) (fun d => (hm d).2.2))), args_kept m ρ h.1 c⟩)
      (Cert.AllSum.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_ref, trivial, algebraic⟩

end Cert.Proof

end
